-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8192x4096 : Shape := ⟨2, ![8192, 4096]⟩
abbrev S2048x4096 : Shape := ⟨2, ![2048, 4096]⟩
abbrev S2048x2048 : Shape := ⟨2, ![2048, 2048]⟩
abbrev S6x1024x2048 : Shape := ⟨3, ![6, 1024, 2048]⟩
abbrev S2x2048x512 : Shape := ⟨3, ![2, 2048, 512]⟩
abbrev S6 : Shape := ⟨1, ![6]⟩
abbrev S2 : Shape := ⟨1, ![2]⟩
abbrev S_ : Shape := ⟨0, ![]⟩
abbrev S1 : Shape := ⟨1, ![1]⟩
abbrev S1x1024x2048 : Shape := ⟨3, ![1, 1024, 2048]⟩
abbrev S1024x2048 : Shape := ⟨2, ![1024, 2048]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .f32⟩
  | .hbm, ⟨2, _⟩ => ⟨S2048x4096, .bf16⟩
  | .local _ .vmem, ⟨0, _⟩ => ⟨S2048x4096, .bf16⟩
  | .local _ .vmem, ⟨1, _⟩ => ⟨S2048x2048, .bf16⟩
  | .local _ .vmem, ⟨2, _⟩ => ⟨S6x1024x2048, .bf16⟩
  | .local _ .vmem, ⟨3, _⟩ => ⟨S2x2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v43 : BitVec 32 := Scalar.muli v2 c2048_i32
  let c0_i32_28 : BitVec 32 := 0#32
  ![v43.toNat, 0]
def k0_off2 (d0 : Dev nD) (c1_i32_29 : BitVec 32) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c1_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c2048_i32_36 : BitVec 32 := 2048#32
  let v56 : BitVec 32 := Scalar.muli v55 c2048_i32_36
  let v57 : BitVec 32 := Scalar.addi v56 c0_i32_37
  let c0_i32_45 : BitVec 32 := 0#32
  ![v57.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v45 : BitVec 32 := Scalar.addi v2 c1_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c1_i32_41 : BitVec 32 := 1#32
  let v58 : BitVec 32 := Scalar.muli v55 c1_i32_41
  let v59 : BitVec 32 := Scalar.addi c0_i32_42 v58
  v59.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v45 : BitVec 32 := Scalar.addi v2 c1_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c1_i32_50 : BitVec 32 := 1#32
  let v69 : BitVec 32 := Scalar.muli v55 c1_i32_50
  let v70 : BitVec 32 := Scalar.addi c0_i32_51 v69
  v70.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_55 : BitVec 32 := 2#32
  let v78 : BitVec 32 := Scalar.addi v2 c2_i32_55
  let c4_i32_56 : BitVec 32 := 4#32
  let c0_i32_57 : BitVec 32 := 0#32
  let v79 : BitVec 1 := Scalar.cmpi .eq c4_i32_56 c0_i32_57
  let c1_i32_58 : BitVec 32 := 1#32
  let v80 : BitVec 32 := Scalar.select v79 c1_i32_58 c4_i32_56
  let v81 : BitVec 32 := Scalar.remsi v78 v80
  let c0_i32_60 : BitVec 32 := 0#32
  let v83 : BitVec 1 := Scalar.cmpi .slt v81 c0_i32_60
  let c0_i32_61 : BitVec 32 := 0#32
  let v84 : BitVec 1 := Scalar.cmpi .slt v80 c0_i32_61
  let v85 : BitVec 1 := Scalar.xori v83 v84
  let c0_i32_59 : BitVec 32 := 0#32
  let v82 : BitVec 1 := Scalar.cmpi .ne v81 c0_i32_59
  let v86 : BitVec 1 := Scalar.andi v85 v82
  let v87 : BitVec 32 := Scalar.addi v81 v80
  let v88 : BitVec 32 := Scalar.select v86 v87 v81
  let c1_i32_67 : BitVec 32 := 1#32
  let v91 : BitVec 32 := Scalar.muli v88 c1_i32_67
  let v92 : BitVec 32 := Scalar.addi c0_i32_68 v91
  v92.toNat
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_55 : BitVec 32 := 2#32
  let v78 : BitVec 32 := Scalar.addi v2 c2_i32_55
  let c4_i32_56 : BitVec 32 := 4#32
  let c0_i32_57 : BitVec 32 := 0#32
  let v79 : BitVec 1 := Scalar.cmpi .eq c4_i32_56 c0_i32_57
  let c1_i32_58 : BitVec 32 := 1#32
  let v80 : BitVec 32 := Scalar.select v79 c1_i32_58 c4_i32_56
  let v81 : BitVec 32 := Scalar.remsi v78 v80
  let c0_i32_60 : BitVec 32 := 0#32
  let v83 : BitVec 1 := Scalar.cmpi .slt v81 c0_i32_60
  let c0_i32_61 : BitVec 32 := 0#32
  let v84 : BitVec 1 := Scalar.cmpi .slt v80 c0_i32_61
  let v85 : BitVec 1 := Scalar.xori v83 v84
  let c0_i32_59 : BitVec 32 := 0#32
  let v82 : BitVec 1 := Scalar.cmpi .ne v81 c0_i32_59
  let v86 : BitVec 1 := Scalar.andi v85 v82
  let v87 : BitVec 32 := Scalar.addi v81 v80
  let v88 : BitVec 32 := Scalar.select v86 v87 v81
  let c1_i32_77 : BitVec 32 := 1#32
  let v102 : BitVec 32 := Scalar.muli v88 c1_i32_77
  let v103 : BitVec 32 := Scalar.addi c0_i32_78 v102
  v103.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_82 : BitVec 32 := 3#32
  let v111 : BitVec 32 := Scalar.addi v2 c3_i32_82
  let c4_i32_83 : BitVec 32 := 4#32
  let c0_i32_84 : BitVec 32 := 0#32
  let v112 : BitVec 1 := Scalar.cmpi .eq c4_i32_83 c0_i32_84
  let c1_i32_85 : BitVec 32 := 1#32
  let v113 : BitVec 32 := Scalar.select v112 c1_i32_85 c4_i32_83
  let v114 : BitVec 32 := Scalar.remsi v111 v113
  let c0_i32_87 : BitVec 32 := 0#32
  let v116 : BitVec 1 := Scalar.cmpi .slt v114 c0_i32_87
  let c0_i32_88 : BitVec 32 := 0#32
  let v117 : BitVec 1 := Scalar.cmpi .slt v113 c0_i32_88
  let v118 : BitVec 1 := Scalar.xori v116 v117
  let c0_i32_86 : BitVec 32 := 0#32
  let v115 : BitVec 1 := Scalar.cmpi .ne v114 c0_i32_86
  let v119 : BitVec 1 := Scalar.andi v118 v115
  let v120 : BitVec 32 := Scalar.addi v114 v113
  let v121 : BitVec 32 := Scalar.select v119 v120 v114
  let c1_i32_94 : BitVec 32 := 1#32
  let v124 : BitVec 32 := Scalar.muli v121 c1_i32_94
  let v125 : BitVec 32 := Scalar.addi c0_i32_95 v124
  v125.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_82 : BitVec 32 := 3#32
  let v111 : BitVec 32 := Scalar.addi v2 c3_i32_82
  let c4_i32_83 : BitVec 32 := 4#32
  let c0_i32_84 : BitVec 32 := 0#32
  let v112 : BitVec 1 := Scalar.cmpi .eq c4_i32_83 c0_i32_84
  let c1_i32_85 : BitVec 32 := 1#32
  let v113 : BitVec 32 := Scalar.select v112 c1_i32_85 c4_i32_83
  let v114 : BitVec 32 := Scalar.remsi v111 v113
  let c0_i32_87 : BitVec 32 := 0#32
  let v116 : BitVec 1 := Scalar.cmpi .slt v114 c0_i32_87
  let c0_i32_88 : BitVec 32 := 0#32
  let v117 : BitVec 1 := Scalar.cmpi .slt v113 c0_i32_88
  let v118 : BitVec 1 := Scalar.xori v116 v117
  let c0_i32_86 : BitVec 32 := 0#32
  let v115 : BitVec 1 := Scalar.cmpi .ne v114 c0_i32_86
  let v119 : BitVec 1 := Scalar.andi v118 v115
  let v120 : BitVec 32 := Scalar.addi v114 v113
  let v121 : BitVec 32 := Scalar.select v119 v120 v114
  let c1_i32_103 : BitVec 32 := 1#32
  let v135 : BitVec 32 := Scalar.muli v121 c1_i32_103
  let v136 : BitVec 32 := Scalar.addi c0_i32_104 v135
  v136.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_150 : BitVec 32 := 2048#32
  let v210 : BitVec 32 := Scalar.muli v2 c2048_i32_150
  let c0_i32_210 : BitVec 32 := 0#32
  ![v210.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_151 : BitVec 32 := 2048#32
  let v211 : BitVec 32 := Scalar.muli v2 c2048_i32_151
  let c512_i32 : BitVec 32 := 512#32
  ![v211.toNat, 512]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_152 : BitVec 32 := 2048#32
  let v212 : BitVec 32 := Scalar.muli v2 c2048_i32_152
  let c1024_i32_236 : BitVec 32 := 1024#32
  ![v212.toNat, 1024]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_153 : BitVec 32 := 2048#32
  let v213 : BitVec 32 := Scalar.muli v2 c2048_i32_153
  let c1536_i32 : BitVec 32 := 1536#32
  ![v213.toNat, 1536]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_154 : BitVec 32 := 2048#32
  let v214 : BitVec 32 := Scalar.muli v2 c2048_i32_154
  let c2048_i32_268 : BitVec 32 := 2048#32
  ![v214.toNat, 2048]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_155 : BitVec 32 := 2048#32
  let v215 : BitVec 32 := Scalar.muli v2 c2048_i32_155
  let c2560_i32 : BitVec 32 := 2560#32
  ![v215.toNat, 2560]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_156 : BitVec 32 := 2048#32
  let v216 : BitVec 32 := Scalar.muli v2 c2048_i32_156
  let c3072_i32 : BitVec 32 := 3072#32
  ![v216.toNat, 3072]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_157 : BitVec 32 := 2048#32
  let v217 : BitVec 32 := Scalar.muli v2 c2048_i32_157
  let c3584_i32 : BitVec 32 := 3584#32
  ![v217.toNat, 3584]
def k0_off11 (d0 : Dev nD) (c1_i32_108 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.subi v2 c1_i32_108
  let c4_i32_109 : BitVec 32 := 4#32
  let c0_i32_110 : BitVec 32 := 0#32
  let v145 : BitVec 1 := Scalar.cmpi .eq c4_i32_109 c0_i32_110
  let c1_i32_111 : BitVec 32 := 1#32
  let v146 : BitVec 32 := Scalar.select v145 c1_i32_111 c4_i32_109
  let v147 : BitVec 32 := Scalar.remsi v144 v146
  let c0_i32_113 : BitVec 32 := 0#32
  let v149 : BitVec 1 := Scalar.cmpi .slt v147 c0_i32_113
  let c0_i32_114 : BitVec 32 := 0#32
  let v150 : BitVec 1 := Scalar.cmpi .slt v146 c0_i32_114
  let v151 : BitVec 1 := Scalar.xori v149 v150
  let c0_i32_112 : BitVec 32 := 0#32
  let v148 : BitVec 1 := Scalar.cmpi .ne v147 c0_i32_112
  let v152 : BitVec 1 := Scalar.andi v151 v148
  let v153 : BitVec 32 := Scalar.addi v147 v146
  let v154 : BitVec 32 := Scalar.select v152 v153 v147
  let c2048_i32_158 : BitVec 32 := 2048#32
  let v218 : BitVec 32 := Scalar.muli v154 c2048_i32_158
  let c0_i32_333 : BitVec 32 := 0#32
  ![v218.toNat, 0]
def k0_off12 (d0 : Dev nD) (c1_i32_108 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.subi v2 c1_i32_108
  let c4_i32_109 : BitVec 32 := 4#32
  let c0_i32_110 : BitVec 32 := 0#32
  let v145 : BitVec 1 := Scalar.cmpi .eq c4_i32_109 c0_i32_110
  let c1_i32_111 : BitVec 32 := 1#32
  let v146 : BitVec 32 := Scalar.select v145 c1_i32_111 c4_i32_109
  let v147 : BitVec 32 := Scalar.remsi v144 v146
  let c0_i32_113 : BitVec 32 := 0#32
  let v149 : BitVec 1 := Scalar.cmpi .slt v147 c0_i32_113
  let c0_i32_114 : BitVec 32 := 0#32
  let v150 : BitVec 1 := Scalar.cmpi .slt v146 c0_i32_114
  let v151 : BitVec 1 := Scalar.xori v149 v150
  let c0_i32_112 : BitVec 32 := 0#32
  let v148 : BitVec 1 := Scalar.cmpi .ne v147 c0_i32_112
  let v152 : BitVec 1 := Scalar.andi v151 v148
  let v153 : BitVec 32 := Scalar.addi v147 v146
  let v154 : BitVec 32 := Scalar.select v152 v153 v147
  let c2048_i32_159 : BitVec 32 := 2048#32
  let v219 : BitVec 32 := Scalar.muli v154 c2048_i32_159
  let c512_i32_350 : BitVec 32 := 512#32
  ![v219.toNat, 512]
def k0_off13 (d0 : Dev nD) (c1_i32_108 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.subi v2 c1_i32_108
  let c4_i32_109 : BitVec 32 := 4#32
  let c0_i32_110 : BitVec 32 := 0#32
  let v145 : BitVec 1 := Scalar.cmpi .eq c4_i32_109 c0_i32_110
  let c1_i32_111 : BitVec 32 := 1#32
  let v146 : BitVec 32 := Scalar.select v145 c1_i32_111 c4_i32_109
  let v147 : BitVec 32 := Scalar.remsi v144 v146
  let c0_i32_113 : BitVec 32 := 0#32
  let v149 : BitVec 1 := Scalar.cmpi .slt v147 c0_i32_113
  let c0_i32_114 : BitVec 32 := 0#32
  let v150 : BitVec 1 := Scalar.cmpi .slt v146 c0_i32_114
  let v151 : BitVec 1 := Scalar.xori v149 v150
  let c0_i32_112 : BitVec 32 := 0#32
  let v148 : BitVec 1 := Scalar.cmpi .ne v147 c0_i32_112
  let v152 : BitVec 1 := Scalar.andi v151 v148
  let v153 : BitVec 32 := Scalar.addi v147 v146
  let v154 : BitVec 32 := Scalar.select v152 v153 v147
  let c2048_i32_160 : BitVec 32 := 2048#32
  let v220 : BitVec 32 := Scalar.muli v154 c2048_i32_160
  let c1024_i32_379 : BitVec 32 := 1024#32
  ![v220.toNat, 1024]
def k0_off14 (d0 : Dev nD) (c1_i32_108 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.subi v2 c1_i32_108
  let c4_i32_109 : BitVec 32 := 4#32
  let c0_i32_110 : BitVec 32 := 0#32
  let v145 : BitVec 1 := Scalar.cmpi .eq c4_i32_109 c0_i32_110
  let c1_i32_111 : BitVec 32 := 1#32
  let v146 : BitVec 32 := Scalar.select v145 c1_i32_111 c4_i32_109
  let v147 : BitVec 32 := Scalar.remsi v144 v146
  let c0_i32_113 : BitVec 32 := 0#32
  let v149 : BitVec 1 := Scalar.cmpi .slt v147 c0_i32_113
  let c0_i32_114 : BitVec 32 := 0#32
  let v150 : BitVec 1 := Scalar.cmpi .slt v146 c0_i32_114
  let v151 : BitVec 1 := Scalar.xori v149 v150
  let c0_i32_112 : BitVec 32 := 0#32
  let v148 : BitVec 1 := Scalar.cmpi .ne v147 c0_i32_112
  let v152 : BitVec 1 := Scalar.andi v151 v148
  let v153 : BitVec 32 := Scalar.addi v147 v146
  let v154 : BitVec 32 := Scalar.select v152 v153 v147
  let c2048_i32_161 : BitVec 32 := 2048#32
  let v221 : BitVec 32 := Scalar.muli v154 c2048_i32_161
  let c1536_i32_400 : BitVec 32 := 1536#32
  ![v221.toNat, 1536]
def k0_off15 (d0 : Dev nD) (c1_i32_108 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.subi v2 c1_i32_108
  let c4_i32_109 : BitVec 32 := 4#32
  let c0_i32_110 : BitVec 32 := 0#32
  let v145 : BitVec 1 := Scalar.cmpi .eq c4_i32_109 c0_i32_110
  let c1_i32_111 : BitVec 32 := 1#32
  let v146 : BitVec 32 := Scalar.select v145 c1_i32_111 c4_i32_109
  let v147 : BitVec 32 := Scalar.remsi v144 v146
  let c0_i32_113 : BitVec 32 := 0#32
  let v149 : BitVec 1 := Scalar.cmpi .slt v147 c0_i32_113
  let c0_i32_114 : BitVec 32 := 0#32
  let v150 : BitVec 1 := Scalar.cmpi .slt v146 c0_i32_114
  let v151 : BitVec 1 := Scalar.xori v149 v150
  let c0_i32_112 : BitVec 32 := 0#32
  let v148 : BitVec 1 := Scalar.cmpi .ne v147 c0_i32_112
  let v152 : BitVec 1 := Scalar.andi v151 v148
  let v153 : BitVec 32 := Scalar.addi v147 v146
  let v154 : BitVec 32 := Scalar.select v152 v153 v147
  let c2048_i32_162 : BitVec 32 := 2048#32
  let v222 : BitVec 32 := Scalar.muli v154 c2048_i32_162
  let c2048_i32_421 : BitVec 32 := 2048#32
  ![v222.toNat, 2048]
def k0_off16 (d0 : Dev nD) (c1_i32_108 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.subi v2 c1_i32_108
  let c4_i32_109 : BitVec 32 := 4#32
  let c0_i32_110 : BitVec 32 := 0#32
  let v145 : BitVec 1 := Scalar.cmpi .eq c4_i32_109 c0_i32_110
  let c1_i32_111 : BitVec 32 := 1#32
  let v146 : BitVec 32 := Scalar.select v145 c1_i32_111 c4_i32_109
  let v147 : BitVec 32 := Scalar.remsi v144 v146
  let c0_i32_113 : BitVec 32 := 0#32
  let v149 : BitVec 1 := Scalar.cmpi .slt v147 c0_i32_113
  let c0_i32_114 : BitVec 32 := 0#32
  let v150 : BitVec 1 := Scalar.cmpi .slt v146 c0_i32_114
  let v151 : BitVec 1 := Scalar.xori v149 v150
  let c0_i32_112 : BitVec 32 := 0#32
  let v148 : BitVec 1 := Scalar.cmpi .ne v147 c0_i32_112
  let v152 : BitVec 1 := Scalar.andi v151 v148
  let v153 : BitVec 32 := Scalar.addi v147 v146
  let v154 : BitVec 32 := Scalar.select v152 v153 v147
  let c2048_i32_163 : BitVec 32 := 2048#32
  let v223 : BitVec 32 := Scalar.muli v154 c2048_i32_163
  let c2560_i32_442 : BitVec 32 := 2560#32
  ![v223.toNat, 2560]
def k0_off17 (d0 : Dev nD) (c1_i32_108 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.subi v2 c1_i32_108
  let c4_i32_109 : BitVec 32 := 4#32
  let c0_i32_110 : BitVec 32 := 0#32
  let v145 : BitVec 1 := Scalar.cmpi .eq c4_i32_109 c0_i32_110
  let c1_i32_111 : BitVec 32 := 1#32
  let v146 : BitVec 32 := Scalar.select v145 c1_i32_111 c4_i32_109
  let v147 : BitVec 32 := Scalar.remsi v144 v146
  let c0_i32_113 : BitVec 32 := 0#32
  let v149 : BitVec 1 := Scalar.cmpi .slt v147 c0_i32_113
  let c0_i32_114 : BitVec 32 := 0#32
  let v150 : BitVec 1 := Scalar.cmpi .slt v146 c0_i32_114
  let v151 : BitVec 1 := Scalar.xori v149 v150
  let c0_i32_112 : BitVec 32 := 0#32
  let v148 : BitVec 1 := Scalar.cmpi .ne v147 c0_i32_112
  let v152 : BitVec 1 := Scalar.andi v151 v148
  let v153 : BitVec 32 := Scalar.addi v147 v146
  let v154 : BitVec 32 := Scalar.select v152 v153 v147
  let c2048_i32_164 : BitVec 32 := 2048#32
  let v224 : BitVec 32 := Scalar.muli v154 c2048_i32_164
  let c3072_i32_463 : BitVec 32 := 3072#32
  ![v224.toNat, 3072]
def k0_off18 (d0 : Dev nD) (c1_i32_108 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.subi v2 c1_i32_108
  let c4_i32_109 : BitVec 32 := 4#32
  let c0_i32_110 : BitVec 32 := 0#32
  let v145 : BitVec 1 := Scalar.cmpi .eq c4_i32_109 c0_i32_110
  let c1_i32_111 : BitVec 32 := 1#32
  let v146 : BitVec 32 := Scalar.select v145 c1_i32_111 c4_i32_109
  let v147 : BitVec 32 := Scalar.remsi v144 v146
  let c0_i32_113 : BitVec 32 := 0#32
  let v149 : BitVec 1 := Scalar.cmpi .slt v147 c0_i32_113
  let c0_i32_114 : BitVec 32 := 0#32
  let v150 : BitVec 1 := Scalar.cmpi .slt v146 c0_i32_114
  let v151 : BitVec 1 := Scalar.xori v149 v150
  let c0_i32_112 : BitVec 32 := 0#32
  let v148 : BitVec 1 := Scalar.cmpi .ne v147 c0_i32_112
  let v152 : BitVec 1 := Scalar.andi v151 v148
  let v153 : BitVec 32 := Scalar.addi v147 v146
  let v154 : BitVec 32 := Scalar.select v152 v153 v147
  let c2048_i32_165 : BitVec 32 := 2048#32
  let v225 : BitVec 32 := Scalar.muli v154 c2048_i32_165
  let c3584_i32_484 : BitVec 32 := 3584#32
  ![v225.toNat, 3584]
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Steps.lean ====
/-
# The kernel's body as a loop of steps

The printed body is one straight line: the handshake, the copy of the device's own rows, six remote copies, then
fifty-six products, each on a block of `w` fetched into one of two slots while the product before it runs, and the
waits for the six copies sent. This file writes that line as a program with a step function (`step c n`, the `n`-th
product) and shows that it IS the printed body, by unfolding. Everything is then proved of `step c n` once.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Mesh

open Cert.KernelIdeal Cert.KernelIdeal.Gen
open Idealize.ShloMosaic Idealize.ShloMosaic.TcCoe
open Idealize.SL Idealize.SL.Sem

variable {F : FTy → Type} [FloatOps F]

/-! ## The buffers -/

/-- The device's columns of `x`, -/
abbrev xM : Memref sig .tc .hbm S8192x2048 .bf16 := Memref.whole main_arg0
/-- the weights, -/
abbrev wM : Memref sig .tc .hbm S8192x4096 .f32 := Memref.whole main_arg1
/-- the result, -/
abbrev oM : Memref sig .tc .vmem S2048x4096 .bf16 := win0_0.stage 0
/-- the copy of the device's own rows, -/
abbrev ownM : Memref sig .tc .vmem S2048x2048 .bf16 := Memref.whole cc0_scratch0
/-- the six landing slots, -/
abbrev recvM : Memref sig .tc .vmem S6x1024x2048 .bf16 := Memref.whole cc0_scratch1
/-- and the two slots for blocks of `w`. -/
abbrev wbufM : Memref sig .tc .vmem S2x2048x512 .f32 := Memref.whole cc0_scratch2

/-- A landing slot: (how many devices up the ring the receiver sits, minus one; which half of the rows). -/
abbrev Slot : Type := Fin 3 × Fin 2
/-- The slot's number. -/
abbrev Slot.num (g : Slot) : ℕ := 2 * g.1.val + g.2.val

theorem slot_inb (g : Slot) : ∀ a, (![g.num] : Fin 1 → ℕ) a + S1.size a ≤ S6.size a := by revert g; decide
theorem slot_inb3 (g : Slot) : ∀ a, (![g.num, 0, 0] : Fin 3 → ℕ) a + S1x1024x2048.size a ≤ S6x1024x2048.size a := by revert g; decide
theorem slot_words (g : Slot) :
    (Rect.unit (s := S6x1024x2048) ![g.num, 0, 0] S1x1024x2048.size (slot_inb3 g)).WholeWords (EltTy.packing .bf16) := by
  revert g; decide
theorem par_inb (p : Fin 2) : ∀ a, (![p.val] : Fin 1 → ℕ) a + S1.size a ≤ S2.size a := by revert p; decide
theorem par_inb3 (p : Fin 2) : ∀ a, (![p.val, 0, 0] : Fin 3 → ℕ) a + S1x2048x512.size a ≤ S2x2048x512.size a := by revert p; decide

/-- The barrier semaphore, -/
abbrev barS : Sem sig := (SemArray.scalar (sig.barrier 0 rfl) : Sems sig S_).sem
/-- the semaphore of slot `g`'s copy going out, -/
abbrev sendSem (g : Slot) : DmaSem sig :=
  ((cc0_scratch3.slice (Rect.unit (s := S6) ![g.num] S1.size (slot_inb g))).squeeze S_ squeezes_S1_S_).sem
/-- of slot `g`'s copy coming in, -/
abbrev recvSem (g : Slot) : DmaSem sig :=
  ((cc0_scratch4.slice (Rect.unit (s := S6) ![g.num] S1.size (slot_inb g))).squeeze S_ squeezes_S1_S_).sem
/-- of the copy into slot `p` of the blocks of `w`, -/
abbrev wSem (p : Fin 2) : DmaSem sig :=
  ((cc0_scratch5.slice (Rect.unit (s := S2) ![p.val] S1.size (par_inb p))).squeeze S_ squeezes_S1_S_).sem
/-- and of the copy of the device's own rows. -/
abbrev ownSem : DmaSem sig := cc0_scratch6.sem

/-! ## The views -/

/-- The rows of `x` the device keeps. -/
abbrev xOwn (c : Dev nD) : Memref sig .tc .hbm S2048x2048 .bf16 :=
  xM.slice (Rect.unit (s := S8192x2048) (k0_off1 c) S2048x2048.size (k0_off1_inb c)) (fun _ => rfl)
/-- Where the rows of slot `g` start. -/
abbrev xOff (c : Dev nD) (g : Slot) : Fin 2 → ℕ := k0_off2 c (BitVec.ofNat 32 (1 + g.1.val)) (BitVec.ofNat 32 (1024 * g.2.val))
/-- The rows of `x` the device sends to slot `g` of a peer. -/
abbrev xSrc (c : Dev nD) (g : Slot) : Memref sig .tc .hbm S1024x2048 .bf16 :=
  xM.slice (Rect.unit (s := S8192x2048) (xOff c g) S1024x2048.size (k0_off2_inb c g.1 g.2)) (fun _ => rfl)
/-- Landing slot `g`. -/
abbrev rSlot (g : Slot) : Memref sig .tc .vmem S1024x2048 .bf16 :=
  (recvM.slice (Rect.unit (s := S6x1024x2048) ![g.num, 0, 0] S1x1024x2048.size (slot_inb3 g)) (fun _ => rfl)).squeeze S1024x2048
    squeezes_S1x1024x2048_S1024x2048
/-- Slot `p` of the blocks of `w`. -/
abbrev wSlot (p : Fin 2) : Memref sig .tc .vmem S2048x512 .f32 :=
  (wbufM.slice (Rect.unit (s := S2x2048x512) ![p.val, 0, 0] S1x2048x512.size (par_inb3 p)) (fun _ => rfl)).squeeze S2048x512
    squeezes_S1x2048x512_S2048x512

/-- Step `n` of the pass after the first, `j = n / 8`: how far the sender of the rows it multiplies sits, minus one; -/
def dIx (j : ℕ) : Fin 3 := match j % 3 with | 1 => 0 | 2 => 2 | _ => 1
/-- which half of the rows. -/
def hIx (j : ℕ) : Fin 2 := match j with | 0 | 1 | 2 | 3 => 0 | _ => 1
/-- The landing slot it reads. -/
abbrev gIx (j : ℕ) : Slot := (dIx j, hIx j)

/-- Column tile `t` of the device's own rows of `w`. -/
def wOffOwn (c : Dev nD) : ℕ → Fin 2 → ℕ
  | 0 => k0_off3 c | 1 => k0_off4 c | 2 => k0_off5 c | 3 => k0_off6 c
  | 4 => k0_off7 c | 5 => k0_off8 c | 6 => k0_off9 c | _ => k0_off10 c
/-- Column tile `t` of the rows of `w` of the device `r + 1` down the ring. -/
def wOffPeer (c : Dev nD) (r : Fin 3) : ℕ → Fin 2 → ℕ
  | 0 => k0_off11 c (BitVec.ofNat 32 (1 + r.val)) | 1 => k0_off12 c (BitVec.ofNat 32 (1 + r.val))
  | 2 => k0_off13 c (BitVec.ofNat 32 (1 + r.val)) | 3 => k0_off14 c (BitVec.ofNat 32 (1 + r.val))
  | 4 => k0_off15 c (BitVec.ofNat 32 (1 + r.val)) | 5 => k0_off16 c (BitVec.ofNat 32 (1 + r.val))
  | 6 => k0_off17 c (BitVec.ofNat 32 (1 + r.val)) | _ => k0_off18 c (BitVec.ofNat 32 (1 + r.val))
/-- Where the block of `w` of pass `j`, column tile `t` starts. -/
def wOffPass (c : Dev nD) (t : ℕ) : ℕ → Fin 2 → ℕ
  | 0 => wOffOwn c t
  | j + 1 => wOffPeer c (dIx (j + 1)) t
/-- The same by the step's number. -/
abbrev wOff (c : Dev nD) (n : ℕ) : Fin 2 → ℕ := wOffPass c (n % 8) (n / 8)

theorem wOffOwn_inb (c : Dev nD) (t : ℕ) : ∀ a, wOffOwn c t a + S2048x512.size a ≤ S8192x4096.size a := by
  unfold wOffOwn
  split
  · exact k0_off3_inb c
  · exact k0_off4_inb c
  · exact k0_off5_inb c
  · exact k0_off6_inb c
  · exact k0_off7_inb c
  · exact k0_off8_inb c
  · exact k0_off9_inb c
  · exact k0_off10_inb c
theorem wOffPeer_inb (c : Dev nD) (r : Fin 3) (t : ℕ) : ∀ a, wOffPeer c r t a + S2048x512.size a ≤ S8192x4096.size a := by
  unfold wOffPeer
  split
  · exact k0_off11_inb c r
  · exact k0_off12_inb c r
  · exact k0_off13_inb c r
  · exact k0_off14_inb c r
  · exact k0_off15_inb c r
  · exact k0_off16_inb c r
  · exact k0_off17_inb c r
  · exact k0_off18_inb c r
theorem wOff_inb (c : Dev nD) (n : ℕ) : ∀ a, wOff c n a + S2048x512.size a ≤ S8192x4096.size a := by
  show ∀ a, wOffPass c (n % 8) (n / 8) a + S2048x512.size a ≤ S8192x4096.size a
  generalize n / 8 = j
  cases j with
  | zero => exact wOffOwn_inb c _
  | succ j => exact wOffPeer_inb c _ _

/-- Step `n`'s block of `w`. -/
abbrev wSrc (c : Dev nD) (n : ℕ) : Memref sig .tc .hbm S2048x512 .f32 :=
  wM.slice (Rect.unit (s := S8192x4096) (wOff c n) S2048x512.size (wOff_inb c n)) (fun _ => rfl)

/-- The slot of step `n`'s block of `w`. -/
abbrev par (n : ℕ) : Fin 2 := ⟨n % 2, Nat.mod_lt _ (by decide)⟩

/-- Column tile `t`. -/
abbrev col (n : ℕ) : Fin 8 := ⟨n % 8, Nat.mod_lt _ (by decide)⟩

theorem full_inb (t : Fin 8) : ∀ a, (![0, 512 * t.val] : Fin 2 → ℕ) a + S2048x512.size a ≤ S2048x4096.size a := by revert t; decide
theorem half_inb (h : Fin 2) (t : Fin 8) : ∀ a, (![1024 * h.val, 512 * t.val] : Fin 2 → ℕ) a + S1024x512.size a ≤ S2048x4096.size a := by
  revert h t; decide
/-- All rows of column tile `t` of the result, -/
abbrev fullR (t : Fin 8) : Rect S2048x4096 := Rect.unit (s := S2048x4096) ![0, 512 * t.val] S2048x512.size (full_inb t)
/-- and half `h` of them. -/
abbrev halfR (h : Fin 2) (t : Fin 8) : Rect S2048x4096 := Rect.unit (s := S2048x4096) ![1024 * h.val, 512 * t.val] S1024x512.size (half_inb h t)
theorem full_packed (t : Fin 8) : (fullR t).PackedRows (EltTy.packing .bf16) := by revert t; decide
theorem half_packed (h : Fin 2) (t : Fin 8) : (halfR h t).PackedRows (EltTy.packing .bf16) := by revert h t; decide

/-! ## What a step stores -/

/-- The first pass: the device's own rows times the block of `w`. -/
def payOwn (w : Vec F S1x2048x512 .f32) (x : Vec F S2048x2048 .bf16) : FVec F S2048x512 .bf16 :=
  truncf .bf16 (matmul dot_S2048x2048_S2048x512_S2048x512_1_0_0_1_n_n none x
    (truncf .bf16 (shapeCast S2048x512 w shapeCasts_S1x2048x512_S2048x512) bitsLt_bf16_f32)
    (constant S2048x512 .f32 0x00000000#32)) bitsLt_bf16_f32
/-- A later pass: the landed rows times the block of `w`, added to what the result held. -/
def sumAcc (w : Vec F S1x2048x512 .f32) (x : Vec F S1x1024x2048 .bf16) (o : Vec F S1024x512 .bf16) : FVec F S1024x512 .f32 :=
  addf (extf .f32 (shapeCast S1024x512 o shapeCasts_S1024x512_S1024x512) bitsLt_bf16_f32)
    (matmul dot_S1024x2048_S2048x512_S1024x512_1_0_0_1_n_n none (shapeCast S1024x2048 x shapeCasts_S1x1024x2048_S1024x2048)
      (truncf .bf16 (shapeCast S2048x512 w shapeCasts_S1x2048x512_S2048x512) bitsLt_bf16_f32)
      (constant S1024x512 .f32 0x00000000#32))
/-- The sum rounded, -/
def payAcc (w : Vec F S1x2048x512 .f32) (x : Vec F S1x1024x2048 .bf16) (o : Vec F S1024x512 .bf16) : FVec F S1024x512 .bf16 :=
  truncf .bf16 (sumAcc w x o) bitsLt_bf16_f32
/-- or, in the last pass of a half, the sum times its logistic function, rounded. -/
def payAct (w : Vec F S1x2048x512 .f32) (x : Vec F S1x1024x2048 .bf16) (o : Vec F S1024x512 .bf16) : FVec F S1024x512 .bf16 :=
  truncf .bf16 (mulf (sumAcc w x o) (logistic (sumAcc w x o))) bitsLt_bf16_f32
/-- The store of pass `j`. -/
def payAt (j : ℕ) (w : Vec F S1x2048x512 .f32) (x : Vec F S1x1024x2048 .bf16) (o : Vec F S1024x512 .bf16) : FVec F S1024x512 .bf16 :=
  match j with
  | 3 | 6 => payAct w x o
  | _ => payAcc w x o

/-! ## The program -/

abbrev P (F : FTy → Type) [FloatOps F] : Type 1 := Prog (TpuEff nD τ sig (Elt F) Λ₀ .tc) PUnit

/-- Where slot `g`'s copy goes, as the body computes it. -/
def devOf (c : Dev nD) : Slot → Dev nD
  | (⟨0, _⟩, ⟨0, _⟩) => ⟨k0_dev4 c, k0_dev4_lt c⟩ | (⟨0, _⟩, ⟨_ + 1, _⟩) => ⟨k0_dev5 c, k0_dev5_lt c⟩
  | (⟨1, _⟩, ⟨0, _⟩) => ⟨k0_dev6 c, k0_dev6_lt c⟩ | (⟨1, _⟩, ⟨_ + 1, _⟩) => ⟨k0_dev7 c, k0_dev7_lt c⟩
  | (⟨_ + 2, _⟩, ⟨0, _⟩) => ⟨k0_dev8 c, k0_dev8_lt c⟩ | (⟨_ + 2, _⟩, ⟨_ + 1, _⟩) => ⟨k0_dev9 c, k0_dev9_lt c⟩

/-- Start the copy of the device's own rows; -/
def ownStart (c : Dev nD) : P F :=
  Prog.lift (.enqueueDma (xOwn c) (.here ownM) (.dma ownSem)
    ((Memref.isWhole_whole main_arg0).wordExact_slice rfl _ (k0_off1_wordsbf16 c)) (Memref.isWhole_whole cc0_scratch0).wordExact ⟨Or.inl rfl, trivial⟩)
/-- wait for it. -/
def ownWait (c : Dev nD) : P F :=
  Prog.lift (.waitDma2 ownSem (xOwn c) ownM
    ((Memref.isWhole_whole main_arg0).wordExact_slice rfl _ (k0_off1_wordsbf16 c)) (Memref.isWhole_whole cc0_scratch0).wordExact)
/-- Send the rows of slot `g`; -/
def send (c : Dev nD) (g : Slot) : P F :=
  Prog.lift (.enqueueDma (xSrc c g) (.remote (Dev.tc (devOf c g)) (rSlot g) (.dma (sendSem g))) (.dma (recvSem g))
    ((Memref.isWhole_whole main_arg0).wordExact_slice rfl _ (k0_off2_wordsbf16 c g.1 g.2))
    (((Memref.isWhole_whole cc0_scratch1).wordExact_slice rfl _ (slot_words g)).reshape _ _) ⟨⟨rfl, Or.inl rfl⟩, trivial⟩)
/-- wait until they have left; -/
def sendWait (c : Dev nD) (g : Slot) : P F :=
  Prog.lift (.waitDma2 (sendSem g) (rSlot g) (xSrc c g)
    (((Memref.isWhole_whole cc0_scratch1).wordExact_slice rfl _ (slot_words g)).reshape _ _)
    ((Memref.isWhole_whole main_arg0).wordExact_slice rfl _ (k0_off2_wordsbf16 c g.1 g.2)))
/-- wait until slot `g`'s rows have landed here. -/
def recvWait (c : Dev nD) (g : Slot) : P F :=
  Prog.lift (.waitDma2 (recvSem g) (xSrc c g) (rSlot g)
    ((Memref.isWhole_whole main_arg0).wordExact_slice rfl _ (k0_off2_wordsbf16 c g.1 g.2))
    (((Memref.isWhole_whole cc0_scratch1).wordExact_slice rfl _ (slot_words g)).reshape _ _))
/-- Start the fetch of step `n`'s block of `w`; -/
def wStart (c : Dev nD) (n : ℕ) : P F :=
  Prog.lift (.enqueueDma (wSrc c n) (.here (wSlot (par n))) (.dma (wSem (par n))) (View.wordExact_bits rfl)
    ((View.wordExact_bits rfl).reshape _ _) ⟨Or.inl rfl, trivial⟩)
/-- wait for it. -/
def wWait (c : Dev nD) (n : ℕ) : P F :=
  Prog.lift (.waitDma2 (wSem (par n)) (wSrc c n) (wSlot (par n)) (View.wordExact_bits rfl) ((View.wordExact_bits rfl).reshape _ _))

/-- Step `n`'s fetch ahead: none at the last step. -/
def ahead (c : Dev nD) (n : ℕ) : P F := if n = 55 then pure ⟨⟩ else wStart c (n + 1)

/-- The wait before the first product of a pass. -/
def passWait (c : Dev nD) (n : ℕ) : P F :=
  match n % 8 with
  | 0 => match n / 8 with
    | 0 => ownWait c
    | j + 1 => recvWait c (gIx (j + 1))
  | _ + 1 => pure ⟨⟩

/-- The slot of `w` read for step `n`. -/
abbrev wRect (p : Fin 2) : Rect S2x2048x512 := Rect.unit (s := S2x2048x512) ![p.val, 0, 0] S1x2048x512.size (par_inb3 p)
/-- The landing slot read. -/
abbrev gRect (g : Slot) : Rect S6x1024x2048 := Rect.unit (s := S6x1024x2048) ![g.num, 0, 0] S1x1024x2048.size (slot_inb3 g)
/-- The whole of the device's own rows. -/
abbrev ownRect : Rect S2048x2048 := Rect.unit (s := S2048x2048) ![0, 0] S2048x2048.size inb_S2048x2048_S2048x2048_0_0

/-- A product of the first pass. -/
def prodOwn (p : Fin 2) (t : Fin 8) : P F := do
  let w : Vec F S1x2048x512 .f32 ← Prog.lift (.load wbufM (wRect p).toLoadRect (View.loadsAt_vmem h_S1x2048x512))
  let x : Vec F S2048x2048 .bf16 ← Prog.lift (.load ownM ownRect.toLoadRect (View.loadsAt_vmem h_S2048x2048))
  let _ : Vec F S2048x512 .bf16 ← Prog.lift (.load oM (fullR t).toLoadRect (View.loadsAt_vmem h_S2048x512))
  Prog.lift (.store oM (fullR t) (payOwn w x) Finset.univ
    (View.stores_vmem h_S2048x512 ((hstage0_0 0).storeExact_slice rfl _ (full_packed t)) (fun _ => rfl)) (.inl rfl))
/-- A product of pass `j`. -/
def prodAcc (p : Fin 2) (j : ℕ) (t : Fin 8) : P F := do
  let w : Vec F S1x2048x512 .f32 ← Prog.lift (.load wbufM (wRect p).toLoadRect (View.loadsAt_vmem h_S1x2048x512))
  let x : Vec F S1x1024x2048 .bf16 ← Prog.lift (.load recvM (gRect (gIx j)).toLoadRect (View.loadsAt_vmem h_S1x1024x2048))
  let o : Vec F S1024x512 .bf16 ← Prog.lift (.load oM (halfR (hIx j) t).toLoadRect (View.loadsAt_vmem h_S1024x512))
  let _ : Vec F S1024x512 .bf16 ← Prog.lift (.load oM (halfR (hIx j) t).toLoadRect (View.loadsAt_vmem h_S1024x512))
  Prog.lift (.store oM (halfR (hIx j) t) (payAt j w x o) Finset.univ
    (View.stores_vmem h_S1024x512 ((hstage0_0 0).storeExact_slice rfl _ (half_packed (hIx j) t)) (fun _ => rfl)) (.inl rfl))

/-- Step `n`'s product. -/
def prod (n : ℕ) : P F :=
  match n / 8 with
  | 0 => prodOwn (par n) (col n)
  | j + 1 => prodAcc (par n) (j + 1) (col n)

/-- Step `n`. -/
def step (c : Dev nD) (n : ℕ) : P F := do
  wWait c n
  ahead c n
  passWait c n
  prod n

/-- `k` steps from step `n` on. -/
def steps (c : Dev nD) : ℕ → ℕ → P F
  | 0, _ => pure ⟨⟩
  | k + 1, n => do
    step c n
    steps c k (n + 1)

/-- The handshake and the copies started before the first product. -/
def opening (c : Dev nD) : P F := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32
  ownStart c
  send c (0, 0)
  send c (0, 1)
  send c (1, 0)
  send c (1, 1)
  send c (2, 0)
  send c (2, 1)
  wStart c 0

/-- The waits for the copies sent. -/
def closing (c : Dev nD) : P F := do
  sendWait c (0, 0)
  sendWait c (0, 1)
  sendWait c (1, 0)
  sendWait c (1, 1)
  sendWait c (2, 0)
  sendWait c (2, 1)

/-- The body on device `c`. -/
def bodyOn (c : Dev nD) : P F := do
  opening c
  steps c 56 0
  closing c

set_option maxRecDepth 100000 in
/-- The printed body is this program: one operation after the other. -/
theorem body_eq (t : Fin cfg0.N) : (bodyAt0 (F := F) t) = (Prog.op .deviceId fun c => bodyOn c) := by
  iterate 409 refine congrArg (Prog.op _) (funext fun _ => ?_)
  rfl

end Cert.Mesh

end
-- ==== Proof.Protocol.lean ====
/-
# The protocol between the devices

Every device signals the other three on the runtime's barrier semaphore and waits for three units of its own. The
signal to a device carries the two landing slots that device will write here. Then every device copies six halves of
blocks of its columns of `x` into the peers' slots: a copy raises a semaphore of the sender (its share of the rows comes
back) and one of the receiver (the slot, holding the rows). Each of these cells has one round: the barrier cell three
duties of one unit, the others one duty of one copy's credit.
-/
module

public import proofs.«01_k».proof.Proof.Steps
public import proofs.«01_k».proof.Proof.Gen.KernelIdeal.Frame
public import Idealize.ShloMosaic.Lib.Rounds
public import Idealize.ShloMosaic.Lib.Transfers

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, the mesh's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The mesh's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device `r + 1` up the ring, -/
def up (c : Dev nD) (r : Fin 3) : Dev nD := ⟨(c.val + r.val + 1) % 4, Nat.mod_lt _ (by decide)⟩
set_option backward.proofsInPublic true in
/-- and `r + 1` down the ring. -/
def dn (c : Dev nD) (r : Fin 3) : Dev nD := ⟨(c.val + 3 - r.val) % 4, Nat.mod_lt _ (by decide)⟩

theorem dn_up (c : Dev nD) (r : Fin 3) : dn (up c r) r = c := by revert c r; decide
theorem up_dn (c : Dev nD) (r : Fin 3) : up (dn c r) r = c := by revert c r; decide
/-- The turn of the ring by `r + 1`. -/
def turn (r : Fin 3) : Dev nD ≃ Dev nD := ⟨fun c => up c r, fun c => dn c r, fun c => dn_up c r, fun c => up_dn c r⟩

theorem dev1_eq (c : Dev nD) : (⟨k0_dev1 c, k0_dev1_lt c⟩ : Dev nD) = dn c 2 := by revert c; decide
theorem dev2_eq (c : Dev nD) : (⟨k0_dev2 c, k0_dev2_lt c⟩ : Dev nD) = dn c 1 := by revert c; decide
theorem dev3_eq (c : Dev nD) : (⟨k0_dev3 c, k0_dev3_lt c⟩ : Dev nD) = dn c 0 := by revert c; decide
theorem devOf_eq (c : Dev nD) (g : Slot) : devOf c g = up c g.1 := by revert c g; decide

/-- The landing slots in the order of the copies. -/
def slots : List Slot := [(0, 0), (0, 1), (1, 0), (1, 1), (2, 0), (2, 1)]
theorem slots_univ : (Finset.univ : Finset Slot) = slots.toFinset := by decide
theorem slots_nodup : slots.Nodup := by decide

/-! ## The cells -/

abbrev barCell (c : Dev nD) : GSem nD τ sig := ((c : Thread nD τ), .reg barS)
abbrev sendCell (c : Dev nD) (g : Slot) : GSem nD τ sig := ((c : Thread nD τ), .dma (sendSem g))
abbrev recvCell (c : Dev nD) (g : Slot) : GSem nD τ sig := ((c : Thread nD τ), .dma (recvSem g))

/-- A device's cells of the protocol. -/
abbrev CK : Type := Unit ⊕ (Slot ⊕ Slot)
abbrev csem : CK → SemLoc sig := fun | .inl _ => .reg barS | .inr (.inl g) => .dma (sendSem g) | .inr (.inr g) => .dma (recvSem g)
abbrev kcell (ck : Dev nD × CK) : GSem nD τ sig := ((ck.1 : Thread nD τ), csem ck.2)

theorem csem_injective : Function.Injective (csem : CK → SemLoc sig) := by
  have h : ∀ a b : CK, csem a = csem b → a = b := by decide
  exact fun a b => h a b

/-- A copy's credit. -/
def N : ℕ := (rSlot (0, 0)).view.dmaCredit
theorem N_pos : 0 < N := View.dmaCredit_pos _ (by decide)
theorem N_recv (g : Slot) : (rSlot g).view.dmaCredit = N := rfl
theorem N_send (c : Dev nD) (g : Slot) : (xSrc c g).view.dmaCredit = N := rfl

/-- The slot whose incoming copy raises a semaphore, -/
def recvOf (sm : SemLoc sig) : Option Slot := slots.find? fun g => sm = .dma (recvSem g)
/-- and whose outgoing one does. -/
def sendOf (sm : SemLoc sig) : Option Slot := slots.find? fun g => sm = .dma (sendSem g)

theorem recvOf_recv (g : Slot) : recvOf (.dma (recvSem g)) = some g := by revert g; decide
theorem recvOf_send (g : Slot) : recvOf (.dma (sendSem g)) = none := by revert g; decide
theorem recvOf_bar : recvOf (.reg barS) = none := by decide
theorem sendOf_send (g : Slot) : sendOf (.dma (sendSem g)) = some g := by revert g; decide
theorem sendOf_recv (g : Slot) : sendOf (.dma (recvSem g)) = none := by revert g; decide
theorem send_ne_bar (g : Slot) : (SemLoc.dma (sendSem g) : SemLoc sig) ≠ .reg barS := fun h => by cases h
theorem recv_ne_bar (g : Slot) : (SemLoc.dma (recvSem g) : SemLoc sig) ≠ .reg barS := fun h => by cases h

/-! ## Contents -/

/-- Device `c`'s columns of `x`, -/
abbrev xC (c : Dev nD) : Buf (Elt F) ((c : Thread nD τ).loc main_arg0) := m ((c : Thread nD τ).loc main_arg0)
/-- its copy of the weights, -/
abbrev wC (c : Dev nD) : Buf (Elt F) ((c : Thread nD τ).loc main_arg1) := m ((c : Thread nD τ).loc main_arg1)
/-- and what its landing buffer holds once slot `g`'s copy is in (off the slot: what it held at launch). -/
def landed (c : Dev nD) (g : Slot) : Buf (Elt F) ((c : Thread nD τ).loc cc0_scratch1) :=
  (rSlot g).view.write (Elt F) (m ((c : Thread nD τ).loc cc0_scratch1))
    ((xSrc (dn c g.1) g).view.read (Elt F) (xC m (dn c g.1))) Finset.univ

/-- Landing slot `g` of device `c`, holding `f` on it, -/
def slotPts (c : Dev nD) (g : Slot) (f : Buf (Elt F) ((c : Thread nD τ).loc cc0_scratch1)) : sProp 𝕄 :=
  ((c : Thread nD τ).loc cc0_scratch1) ↦[(rSlot g).view.set]{fullShare} f
/-- and the rows slot `g`'s copy reads off device `c`'s columns of `x`, at that copy's share. -/
def xPts (c : Dev nD) (g : Slot) : sProp 𝕄 :=
  ((c : Thread nD τ).loc main_arg0) ↦[(xSrc c g).view.set]{Transfers.shareTokN fullShare g.num} xC m c

/-- What a landed copy leaves on the slot does not depend on what the slot held. -/
theorem landed_congr (c : Dev nD) (g : Slot) (fd : Buf (Elt F) ((c : Thread nD τ).loc cc0_scratch1)) :
    (((c : Thread nD τ).loc cc0_scratch1) ↦[(rSlot g).view.set]{fullShare}
        ((rSlot g).view.write (Elt F) fd ((xSrc (dn c g.1) g).view.read (Elt F) (xC m (dn c g.1))) Finset.univ) : sProp 𝕄)
      = slotPts c g (landed m c g) :=
  pointsTo_congr fun i hi => View.write_congr (fun _ _ _ => rfl) fun h => absurd hi h

/-! ## The schedule -/

/-- One of the slots a barrier signal hands over, with that its cell is at its first round. -/
def slotPay (c : Dev nD) (g : Slot) : sProp 𝕄 := iprop((∃ f, slotPts c g f) ∗ reached ER (recvCell c g) 0)
/-- What the signal `r` of device `c`'s barrier cell hands over: the two slots of `up c r` that `c` writes. -/
def barPay (c : Dev nD) (r : Fin 3) : sProp 𝕄 := iprop(slotPay (up c r) (r, 0) ∗ slotPay (up c r) (r, 1))

abbrev IsBar (g : GSem nD τ sig) : Prop := g.1.2 = .tc ∧ g.2 = .reg barS
abbrev IsXfer (g : GSem nD τ sig) : Prop := g.1.2 = .tc ∧ ((sendOf g.2).isSome ∨ (recvOf g.2).isSome)

/-- What a transfer's cell hands over. -/
def xferPay (c : Dev nD) (sm : SemLoc sig) : sProp 𝕄 :=
  match recvOf sm with
  | some g => slotPts c g (landed m c g)
  | none => match sendOf sm with
    | some g => xPts m c g
    | none => iprop(emp)

/-- One round, round 0: a barrier cell has three duties of one unit each, a transfer's cell the duty `0` of a copy's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := if g.2 = .reg barS then barPay g.1.1 d else xferPay m g.1.1 g.2
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m).payload g r d) := by
  show BI.Storable upEmb (if g.2 = .reg barS then barPay g.1.1 d else xferPay m g.1.1 g.2)
  unfold barPay slotPay xferPay slotPts xPts
  (repeat' split) <;> infer_instance

section Sched
variable (c : Dev nD) (g : Slot)

theorem not_bar_send : ¬ IsBar (sendCell c g) := fun h => send_ne_bar g h.2
theorem not_bar_recv : ¬ IsBar (recvCell c g) := fun h => recv_ne_bar g h.2

omit [FloatOps F] in
theorem duties_bar : (Rd (F := F) m).duties (barCell c) 0 = Finset.univ := by dsimp only [Rd]; exact if_pos ⟨rfl, rfl, rfl⟩
omit [FloatOps F] in
theorem duties_send : (Rd (F := F) m).duties (sendCell c g) 0 = {0} := by
  dsimp only [Rd]; rw [if_neg (fun h => not_bar_send c g h.2)]; exact if_pos ⟨rfl, rfl, .inl (by rw [sendOf_send]; rfl)⟩
omit [FloatOps F] in
theorem duties_recv : (Rd (F := F) m).duties (recvCell c g) 0 = {0} := by
  dsimp only [Rd]; rw [if_neg (fun h => not_bar_recv c g h.2)]; exact if_pos ⟨rfl, rfl, .inr (by rw [recvOf_recv]; rfl)⟩
omit [FloatOps F] in
theorem duties_later (g : GSem nD τ sig) : ∀ r, 1 ≤ r → (Rd (F := F) m).duties g r = ∅ :=
  fun r hr => by dsimp only [Rd]; rw [if_neg fun h => by omega, if_neg fun h => by omega]

omit [FloatOps F] in
theorem amount_bar (d : Fin 3) : (Rd (F := F) m).amount (barCell c) 0 d = 1 := by dsimp only [Rd]; exact if_pos rfl
omit [FloatOps F] in
theorem amount_send (d : Fin 3) : (Rd (F := F) m).amount (sendCell c g) 0 d = N := by dsimp only [Rd]; exact if_neg (send_ne_bar g)
omit [FloatOps F] in
theorem amount_recv (d : Fin 3) : (Rd (F := F) m).amount (recvCell c g) 0 d = N := by dsimp only [Rd]; exact if_neg (recv_ne_bar g)

omit [FloatOps F] in
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_send : (Rd (F := F) m).expect (sendCell c g) 0 = N := by
  unfold Schedule.expect Schedule.amountOf; rw [duties_send, Finset.sum_singleton, amount_send]
omit [FloatOps F] in
theorem expect_recv : (Rd (F := F) m).expect (recvCell c g) 0 = N := by
  unfold Schedule.expect Schedule.amountOf; rw [duties_recv, Finset.sum_singleton, amount_recv]

omit [FloatOps F] in
theorem payload_bar (d : Fin 3) : (Rd (F := F) m).payload (barCell c) 0 d = barPay c d := by dsimp only [Rd]; rw [if_pos rfl]
omit [FloatOps F] in
theorem payload_send (d : Fin 3) : (Rd (F := F) m).payload (sendCell c g) 0 d = xPts m c g := by
  dsimp only [Rd]; rw [if_neg (send_ne_bar g)]; unfold xferPay; rw [recvOf_send, sendOf_send]
omit [FloatOps F] in
theorem payload_recv (d : Fin 3) : (Rd (F := F) m).payload (recvCell c g) 0 d = slotPts c g (landed m c g) := by
  dsimp only [Rd]; rw [if_neg (recv_ne_bar g)]; unfold xferPay; rw [recvOf_recv]

omit [FloatOps F] in
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
omit [FloatOps F] in
theorem rest_send : bigSep ((Rd (F := F) m).duties (sendCell c g) 0 \ ∅) (fun d => (Rd (F := F) m).payload (sendCell c g) 0 d) = xPts m c g := by
  rw [Finset.sdiff_empty, duties_send, bigSep_singleton, payload_send]
omit [FloatOps F] in
theorem rest_recv : bigSep ((Rd (F := F) m).duties (recvCell c g) 0 \ ∅) (fun d => (Rd (F := F) m).payload (recvCell c g) 0 d)
    = slotPts c g (landed m c g) := by
  rw [Finset.sdiff_empty, duties_recv, bigSep_singleton, payload_recv]

end Sched

/-! ## What each device owes at launch; the levels -/

/-- The copies' credits owed, in the order of the copies; -/
def oweS (c : Dev nD) : List Slot → CellTallies nD τ sig Unit
  | [] => 0
  | g :: l => oweS c l + tallyAt (recvCell (up c g.1) g) () N
/-- the barrier units owed on top of them, in the order of the signals. -/
def oweB (c : Dev nD) : List (Fin 3) → CellTallies nD τ sig Unit
  | [] => oweS c slots
  | r :: l => oweB c l + tallyAt (barCell (dn c r)) () 1
def O₀ (c : Dev nD) : CellTallies nD τ sig Unit := oweB c [2, 1, 0]

def L (g : GSem nD τ sig) : Finset Unit := if g.1.2 = .tc then {()} else ∅
/-- Barrier cells at 1, the cells of incoming copies at 2, everything else at 0. -/
def lv (g : GSem nD τ sig) (_ : Unit) : ℕ := if g.2 = .reg barS then 1 else if (recvOf g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (g : Slot) (u : Unit) : lv (recvCell c g) u = 2 := by
  unfold lv; rw [if_neg (recv_ne_bar g), recvOf_recv]; rfl
theorem lv_bar (c : Dev nD) (u : Unit) : lv (barCell c) u = 1 := if_pos rfl

theorem oweS_pos {c : Dev nD} {l : List Slot} {g : GSem nD τ sig} {u : Unit} (h : 0 < oweS c l g u) :
    ∃ s : Slot, g = recvCell (up c s.1) s := by
  induction l with
  | nil => exact absurd h (Nat.lt_irrefl 0)
  | cons s l ih =>
    rw [oweS, Pi.add_apply, Finsupp.add_apply, tallyAt_apply] at h
    by_cases hs : g = recvCell (up c s.1) s ∧ u = ()
    · exact ⟨s, hs.1⟩
    · rw [if_neg hs] at h; exact ih h

theorem oweB_pos {c : Dev nD} {l : List (Fin 3)} {g : GSem nD τ sig} {u : Unit} (h : 0 < oweB c l g u) :
    (∃ s : Slot, g = recvCell (up c s.1) s) ∨ ∃ r : Fin 3, g = barCell (dn c r) := by
  induction l with
  | nil => exact .inl (oweS_pos h)
  | cons s l ih =>
    rw [oweB, Pi.add_apply, Finsupp.add_apply, tallyAt_apply] at h
    by_cases hs : g = barCell (dn c s) ∧ u = ()
    · exact .inr ⟨s, hs.1⟩
    · rw [if_neg hs] at h; exact ih h

omit [FloatOps F] in
theorem mayWait_stage (c : Dev nD) (q : DmaSem sig) (hq : recvOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨s, rfl⟩ | ⟨r, rfl⟩ <;> exact Finset.mem_singleton_self _)
      (fun p hp => by
        rw [Finset.mem_singleton.mp hp]; dsimp only [lv]
        rw [if_neg (fun h => by cases h), hq]; exact Nat.le_of_eq (if_neg (by decide)))
      (fun g u hg => by
        rcases oweB_pos hg with ⟨s, rfl⟩ | ⟨r, rfl⟩
        · rw [lv_recv]; decide
        · rw [lv_bar]; decide)
  · rw [MayWait_zero]; iintro -; iempintro

omit [FloatOps F] in
/-- At its barrier wait a device owes copies' credits only: cells above its barrier cell. -/
theorem mayWait_bar (c : Dev nD) :
    (levAts L lv : sProp 𝕄) ⊢ MayWait (c : Thread nD τ) (.reg barS) () (oweS c slots) :=
  MayOwe.of_cut (L := L) (lev := lv) 1 (fun p hp => by rw [Finset.mem_singleton.mp hp, L_tc]; exact Finset.mem_singleton_self _)
    (fun g u hg => by obtain ⟨s, rfl⟩ := oweS_pos hg; exact Finset.mem_singleton_self _)
    (fun p hp => by rw [Finset.mem_singleton.mp hp]; exact Nat.le_of_eq (lv_bar c _))
    (fun g u hg => by obtain ⟨s, rfl⟩ := oweS_pos hg; rw [lv_recv]; decide)

end Cert.Mesh

end
-- ==== Proof.Loop.lean ====
/-
# The fifty-six products

What a device holds before step `n`, and that step `n` takes it to what it holds before step `n + 1`. The fetches of
blocks of `w` and the copy of the device's own rows are local copies (`Transfers.Flight`); the landing slots come with
the waits on their cells. The result's contents are followed as a function of what the result held (`outSeq`).
-/
module

public import proofs.«01_k».proof.Proof.Protocol

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Contents -/

/-- What the buffer of blocks of `w` holds once step `n`'s fetch is in (off its slot: what it held at launch), -/
def wLanded (c : Dev nD) (n : ℕ) : Buf (Elt F) ((c : Thread nD τ).loc cc0_scratch2) :=
  (wSlot (par n)).view.write (Elt F) (m ((c : Thread nD τ).loc cc0_scratch2)) ((wSrc c n).view.read (Elt F) (wC m c)) Finset.univ
/-- what step `n` reads of it, -/
def wVal (c : Dev nD) (n : ℕ) : Vec F S1x2048x512 .f32 := wbufM.view.readAt (Elt F) (wRect (par n)).toLoadRect (wLanded m c n)
/-- the device's own rows, -/
def ownVal (c : Dev nD) : Vec F S2048x2048 .bf16 := (xOwn c).view.read (Elt F) (xC m c)
/-- what a step reads of landing slot `g`, -/
def rVal (c : Dev nD) (g : Slot) : Vec F S1x1024x2048 .bf16 := recvM.view.readAt (Elt F) (gRect g).toLoadRect (landed m c g)

/-- The result after step `n`, of the result before it. -/
def outNext (c : Dev nD) (n : ℕ) (o : (cc0_stg0_0 : Ref sig .tc).ty.Contents (Elt F)) : (cc0_stg0_0 : Ref sig .tc).ty.Contents (Elt F) :=
  match n / 8 with
  | 0 => (oM.access (fullR (col n))).write (Elt F) o (payOwn (wVal m c n) (ownVal m c)) Finset.univ
  | j + 1 => (oM.access (halfR (hIx (j + 1)) (col n))).write (Elt F) o
      (payAt (j + 1) (wVal m c n) (rVal m c (gIx (j + 1))) (oM.view.readAt (Elt F) (halfR (hIx (j + 1)) (col n)).toLoadRect o)) Finset.univ
/-- The result before step `n`, of what it held before the first. -/
def outSeq (c : Dev nD) (o : (cc0_stg0_0 : Ref sig .tc).ty.Contents (Elt F)) : ℕ → (cc0_stg0_0 : Ref sig .tc).ty.Contents (Elt F)
  | 0 => o
  | n + 1 => outNext m c n (outSeq c o n)

/-! ## Points-tos -/

abbrev outPts (c : Dev nD) (o : (cc0_stg0_0 : Ref sig .tc).ty.Contents (Elt F)) : sProp 𝕄 := ((c : Thread nD τ).loc cc0_stg0_0) ↦{fullShare} o
abbrev wPts (c : Dev nD) : sProp 𝕄 := ((c : Thread nD τ).loc main_arg1) ↦{fullShare} wC m c
abbrev wSlotPts (c : Dev nD) (p : Fin 2) (f : Buf (Elt F) ((c : Thread nD τ).loc cc0_scratch2)) : sProp 𝕄 :=
  ((c : Thread nD τ).loc cc0_scratch2) ↦[(wSlot p).view.set]{fullShare} f
abbrev wSlotAny (c : Dev nD) (p : Fin 2) : sProp 𝕄 := iprop(∃ f, wSlotPts c p f)
abbrev wCell (c : Dev nD) (p : Fin 2) : GSem nD τ sig := ((c : Thread nD τ), .dma (wSem p))
abbrev ownCell (c : Dev nD) : GSem nD τ sig := ((c : Thread nD τ), .dma ownSem)

/-- A fetch's credit. -/
abbrev Nw : ℕ := (wSlot 0).view.dmaCredit
theorem Nw_pos : 0 < Nw := View.dmaCredit_pos _ (by decide)
abbrev No : ℕ := ownM.view.dmaCredit
theorem No_pos : 0 < No := View.dmaCredit_pos _ (by decide)

/-- Step `n`'s fetch in flight: its semaphore, its slot and the block it reads are with it. -/
def wFly (c : Dev nD) (n : ℕ) : sProp 𝕄 :=
  iprop(Transfers.Flight EC (c : Thread nD τ) (.dma (wSem (par n))) () Nw
      iprop(wSlotPts c (par n) (wLanded m c n) ∗ ((c : Thread nD τ).loc main_arg1) ↦[(wSrc c n).view.set]{fullShare} wC m c)
    ∗ ((c : Thread nD τ).loc main_arg1) ↦[Finset.univ \ (wSrc c n).view.set]{fullShare} wC m c)

/-- The device's obligations are none, whatever it has waited for. -/
abbrev free (c : Dev nD) : sProp 𝕄 := iprop(∃ W : Waits sig Unit, owes (c : Thread nD τ) 0 W)

/-! ## The fetches -/

omit [FloatOps F] in
theorem wLanded_congr (c : Dev nD) (n : ℕ) (fd : Buf (Elt F) ((c : Thread nD τ).loc cc0_scratch2)) :
    (((c : Thread nD τ).loc cc0_scratch2) ↦[(wSlot (par n)).view.set]{fullShare}
        ((wSlot (par n)).view.write (Elt F) fd ((wSrc c n).view.read (Elt F) (wC m c)) Finset.univ) : sProp 𝕄)
      = wSlotPts c (par n) (wLanded m c n) :=
  pointsTo_congr fun i hi => View.write_congr (fun _ _ _ => rfl) fun h => absurd hi h

/-- Starting step `n`'s fetch. -/
theorem wStart_spec (c : Dev nD) (n : ℕ) (Kt : PUnit → sProp 𝕄) :
    iprop((wPts m c ∗ wSlotAny c (par n) ∗ semVal (wCell c (par n)) 0) ∗ (wFly m c n -∗ Kt ⟨⟩))
      ⊢ wp frame (wpE (defs₀ (F := F)) 𝒱₀ c none) Set.univ (wStart c n) Kt := by
  unfold wStart wFly
  simp only [Prog.lift]
  iintro ⟨⟨Hw, ⟨%f, Hs⟩, Hv⟩, Hk⟩
  ihave Hw' := (pointsTo_split_subset (Finset.subset_univ (wSrc c n).view.set)).1 $$ Hw
  icases Hw' with ⟨Hw, Hr⟩
  iapply (Transfers.wp_dmaLocal EC 𝒱₀ (c : Thread nD τ) none (src := wSrc c n) (dst := wSlot (par n)) (sm := .dma (wSem (par n)))
      (Sd := (wSlot (par n)).view.set) () Nw rfl Nw_pos (Finset.Subset.refl _)) $$ [Hw Hs Hv]
  · isplitl [Hw]; · iexact Hw
    isplitl [Hs]; · iexact Hs
    iexact Hv
  iintro Hf
  rw [wp_ret]; imodintro
  iapply Hk
  isplitl [Hf]
  · iapply (Transfers.Flight_mono EC (c : Thread nD τ) (sep_mono_left (Entails.of_eq (wLanded_congr m c n f)))); iexact Hf
  · iexact Hr

/-- Waiting for it. -/
theorem wWait_spec (c : Dev nD) (n : ℕ) (Kt : PUnit → sProp 𝕄) :
    iprop((wFly m c n ∗ free c) ∗ ((wPts m c ∗ wSlotPts c (par n) (wLanded m c n) ∗ semVal (wCell c (par n)) 0 ∗ free c) -∗ Kt ⟨⟩))
      ⊢ wp frame (wpE (defs₀ (F := F)) 𝒱₀ c none) Set.univ (wWait c n) Kt := by
  unfold wWait wFly
  simp only [Prog.lift]
  iintro ⟨⟨⟨Hf, Hr⟩, ⟨%W, Ho⟩⟩, Hk⟩
  iapply (Transfers.wp_waitLocal EC 𝒱₀ (c : Thread nD τ) none (sem := wSem (par n)) (srcw := wSrc c n) (dstw := wSlot (par n)) () (N := Nw) rfl) $$ [Hf Ho]
  · isplitl [Hf]; · iexact Hf
    iexact Ho
  iintro ⟨⟨Hs, Hw⟩, Hv, Ho⟩
  rw [wp_ret]; imodintro
  iapply Hk
  isplitl [Hw Hr]
  · iapply (pointsTo_split_subset (Finset.subset_univ (wSrc c n).view.set)).2
    isplitl [Hw]; · iexact Hw
    iexact Hr
  isplitl [Hs]; · iexact Hs
  isplitl [Hv]; · iexact Hv
  iexists _; iexact Ho

/-- The fetch in flight before step `n` and the idle semaphore; after the last step, nothing in flight. -/
def fetch (c : Dev nD) (n : ℕ) : sProp 𝕄 :=
  if n = 56 then iprop(wPts m c ∗ semVal (wCell c (par n)) 0 ∗ semVal (wCell c (par (n + 1))) 0 ∗ wSlotAny c (par n))
  else iprop(wFly m c n ∗ semVal (wCell c (par (n + 1))) 0)

theorem par_two (n : ℕ) : par (n + 1 + 1) = par n := Fin.ext (by show (n + 1 + 1) % 2 = n % 2; omega)

/-- The fetch ahead of step `n`. -/
theorem ahead_spec (c : Dev nD) (n : ℕ) (Kt : PUnit → sProp 𝕄) :
    iprop((wPts m c ∗ wSlotAny c (par (n + 1)) ∗ semVal (wCell c (par n)) 0 ∗ semVal (wCell c (par (n + 1))) 0) ∗ (fetch m c (n + 1) -∗ Kt ⟨⟩))
      ⊢ wp frame (wpE (defs₀ (F := F)) 𝒱₀ c none) Set.univ (ahead c n) Kt := by
  unfold ahead fetch
  rw [par_two]
  by_cases h : n = 55
  · rw [if_pos h, if_pos (by omega), Prog.pure_eq_ret, wp_ret]
    iintro ⟨⟨Hw, Hs, Hv, Hv'⟩, Hk⟩
    imodintro
    iapply Hk
    isplitl [Hw]; · iexact Hw
    isplitl [Hv']; · iexact Hv'
    isplitl [Hv]; · iexact Hv
    iexact Hs
  · rw [if_neg h, if_neg (by omega)]
    iintro ⟨⟨Hw, Hs, Hv, Hv'⟩, Hk⟩
    iapply (wStart_spec m c (n + 1) Kt)
    isplitl [Hw Hs Hv']
    · isplitl [Hw]; · iexact Hw
      isplitl [Hs]; · iexact Hs
      iexact Hv'
    · iintro Hf
      iapply Hk
      isplitl [Hf]; · iexact Hf
      iexact Hv

/-! ## The waits before a pass -/

/-- The share and the rows of `x` the copy of the device's own rows reads. -/
abbrev xOwnPts (c : Dev nD) : sProp 𝕄 := ((c : Thread nD τ).loc main_arg0) ↦[(xOwn c).view.set]{Transfers.shareTokN fullShare 6} xC m c
/-- The copy of the device's own rows, in flight, -/
def ownFly (c : Dev nD) : sProp 𝕄 :=
  Transfers.Flight EC (c : Thread nD τ) (.dma ownSem) () No
    iprop((((c : Thread nD τ).loc cc0_scratch0) ↦{fullShare} ownVal m c) ∗ xOwnPts m c)
/-- and in. -/
def ownGot (c : Dev nD) : sProp 𝕄 :=
  iprop((((c : Thread nD τ).loc cc0_scratch0) ↦{fullShare} ownVal m c) ∗ xOwnPts m c ∗ semVal (ownCell c) 0)

/-- Slot `g`'s copy awaited, -/
def recvPend (c : Dev nD) (g : Slot) : sProp 𝕄 := iprop(atPos ER (recvCell c g) 0 ∅ 0 ∗ cred (tallyAt (recvCell c g) () N))
/-- and in. -/
def recvGot (c : Dev nD) (g : Slot) : sProp 𝕄 := iprop(slotPts c g (landed m c g) ∗ atPos ER (recvCell c g) 1 ∅ 0)

/-- The pass that multiplies slot `g`. -/
def passOf (g : Slot) : ℕ := 3 * g.2.val + (match g.1 with | ⟨0, _⟩ => 1 | ⟨1, _⟩ => 3 | ⟨_ + 2, _⟩ => 2)
theorem gIx_passOf (g : Slot) : gIx (passOf g) = g := by revert g; decide
theorem passOf_pos (g : Slot) : 0 < passOf g := by revert g; decide
theorem passOf_gIx {j : ℕ} (h0 : 0 < j) (h : j ≤ 6) : passOf (gIx j) = j := by
  have : ∀ j : Fin 7, 0 < j.val → passOf (gIx j.val) = j.val := by decide
  exact this ⟨j, by omega⟩ h0

def ownSt (c : Dev nD) (n : ℕ) : sProp 𝕄 := if n = 0 then ownFly m c else ownGot m c
def recvSt (c : Dev nD) (n : ℕ) (g : Slot) : sProp 𝕄 := if n ≤ 8 * passOf g then recvPend c g else recvGot m c g
/-- The copies awaited and in before step `n`. -/
def passSt (c : Dev nD) (n : ℕ) : sProp 𝕄 := iprop(ownSt m c n ∗ bigSep Finset.univ fun g : Slot => recvSt m c n g)

/-- A device's cells' invariants and that their first rounds are reached, all the mesh's. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)
instance records_persistent (K : Dev nD × CK → ℕ) : BI.Persistent (records m K) := by unfold records; infer_instance

omit [FloatOps F] in
theorem inv_at (K : Dev nD × CK → ℕ) (ck : Dev nD × CK) : records m K ⊢ cellInv ER (Rd m) (K ck) (kcell ck) := by
  unfold records
  exact sep_elim_left.trans (bigSep_elim (Φ := fun ck => cellInv ER (Rd m) (K ck) (kcell ck)) (Finset.mem_univ ck))
omit [FloatOps F] in
theorem reached_at (K : Dev nD × CK → ℕ) (ck : Dev nD × CK) : records m K ⊢ reached ER (kcell ck) 0 := by
  unfold records
  exact sep_elim_right.trans (bigSep_elim (Φ := fun ck => reached ER (kcell ck) 0) (Finset.mem_univ ck))

omit [FloatOps F] in
/-- One summand apart. -/
theorem bigSep_at {I : Type} [Fintype I] [DecidableEq I] (i : I) (Φ : I → sProp 𝕄) :
    bigSep Finset.univ Φ = iprop(Φ i ∗ bigSep (Finset.univ.erase i) Φ) := bigSep_univ_split i

theorem ownWait_spec (c : Dev nD) (Kt : PUnit → sProp 𝕄) :
    iprop((ownFly m c ∗ free c) ∗ ((ownGot m c ∗ free c) -∗ Kt ⟨⟩))
      ⊢ wp frame (wpE (defs₀ (F := F)) 𝒱₀ c none) Set.univ (ownWait c) Kt := by
  unfold ownWait ownFly ownGot
  simp only [Prog.lift]
  iintro ⟨⟨Hf, ⟨%W, Ho⟩⟩, Hk⟩
  iapply (Transfers.wp_waitLocal EC 𝒱₀ (c : Thread nD τ) none (sem := ownSem) (srcw := xOwn c) (dstw := ownM) () (N := No) rfl) $$ [Hf Ho]
  · isplitl [Hf]; · iexact Hf
    iexact Ho
  iintro ⟨⟨Hs, Hx⟩, Hv, Ho⟩
  rw [wp_ret]; imodintro
  iapply Hk
  isplitr [Ho]
  · isplitl [Hs]; · iexact Hs
    isplitl [Hx]; · iexact Hx
    iexact Hv
  iexists _; iexact Ho

theorem recvWait_spec (K : Dev nD × CK → ℕ) (c : Dev nD) (g : Slot) (Kt : PUnit → sProp 𝕄) :
    iprop((records m K ∗ recvPend c g ∗ free c) ∗ ((recvGot m c g ∗ free c) -∗ Kt ⟨⟩))
      ⊢ wp frame (wpE (defs₀ (F := F)) 𝒱₀ c none) Set.univ (recvWait c g) Kt := by
  unfold recvWait recvPend recvGot
  simp only [Prog.lift]
  iintro ⟨⟨#HR, ⟨Hat, Hc⟩, ⟨%W, Ho⟩⟩, Hk⟩
  iapply (Rounds.wp_wait_rest_token 𝒱₀ ER (Rd m) (c : Thread nD τ) none (κ := K (c, .inr (.inr g)))
      (wpE_waitDma2_eq 𝒱₀ (c : Thread nD τ) none Set.univ) (Set.mem_univ _) () (O := 0) (W := W) (R := 0) (m := 0) (T := ∅)
      (by rw [Nat.zero_add, expect_recv]; rfl)) $$ [Hc Ho Hat]
  · isplitr; · iapply (inv_at m K (c, .inr (.inr g))); iexact HR
    isplitl [Hc]; · iexact Hc
    isplitl [Ho]; · iexact Ho
    isplitr; · rw [MayWait_zero]; iempintro
    iexact Hat
  iintro ⟨Ho, Hat, -, Hpay⟩
  rw [wp_ret]; imodintro
  iapply Hk
  isplitr [Ho]
  · isplitl [Hpay]
    · iapply (Entails.of_eq (rest_recv m c g)); iexact Hpay
    · iexact Hat
  iexists _; iexact Ho

/-- The wait of step `n`. -/
theorem passWait_spec (K : Dev nD × CK → ℕ) (c : Dev nD) (n : ℕ) (hn : n < 56) (Kt : PUnit → sProp 𝕄) :
    iprop((records m K ∗ passSt m c n ∗ free c) ∗ ((passSt m c (n + 1) ∗ free c) -∗ Kt ⟨⟩))
      ⊢ wp frame (wpE (defs₀ (F := F)) 𝒱₀ c none) Set.univ (passWait c n) Kt := by
  unfold passWait
  rcases hq : n % 8 with _ | q
  · rcases hj : n / 8 with _ | j
    · obtain rfl : n = 0 := by omega
      have hr : (fun g : Slot => recvSt m c (0 + 1) g) = fun g => recvSt m c 0 g := funext fun g => by
        have := passOf_pos g
        unfold recvSt; rw [if_pos (by omega), if_pos (by omega)]
      unfold passSt
      rw [hr, show ownSt m c 0 = ownFly m c from if_pos rfl, show ownSt m c (0 + 1) = ownGot m c from if_neg (by decide)]
      iintro ⟨⟨-, ⟨Hf, Hr⟩, Ho⟩, Hk⟩
      iapply (ownWait_spec m c Kt)
      isplitl [Hf Ho]
      · isplitl [Hf]; · iexact Hf
        iexact Ho
      iintro ⟨Hg, Ho⟩
      iapply Hk
      isplitr [Ho]
      · isplitl [Hg]; · iexact Hg
        iexact Hr
      iexact Ho
    · have hn8 : n = 8 * (j + 1) := by omega
      have hp : passOf (gIx (j + 1)) = j + 1 := passOf_gIx (by omega) (by omega)
      have hr : bigSep (Finset.univ.erase (gIx (j + 1))) (fun g : Slot => recvSt m c (n + 1) g)
          = bigSep (Finset.univ.erase (gIx (j + 1))) fun g => recvSt m c n g := bigSep_congr fun g hg => by
        have hne : passOf g ≠ j + 1 := fun h => (Finset.ne_of_mem_erase hg) (by rw [← gIx_passOf g, h])
        unfold recvSt
        by_cases h : n ≤ 8 * passOf g
        · rw [if_pos h, if_pos (by omega)]
        · rw [if_neg h, if_neg (by omega)]
      unfold passSt
      rw [bigSep_at (gIx (j + 1)), bigSep_at (gIx (j + 1)), hr,
        show ownSt m c n = ownGot m c from if_neg (by omega), show ownSt m c (n + 1) = ownGot m c from if_neg (by omega),
        show recvSt m c n (gIx (j + 1)) = recvPend c (gIx (j + 1)) from if_pos (by rw [hp]; omega),
        show recvSt m c (n + 1) (gIx (j + 1)) = recvGot m c (gIx (j + 1)) from if_neg (by rw [hp]; omega)]
      iintro ⟨⟨#HR, ⟨Hf, Hp, Hr⟩, Ho⟩, Hk⟩
      iapply (recvWait_spec m K c (gIx (j + 1)) Kt)
      isplitl [Hp Ho]
      · isplitr; · iexact HR
        isplitl [Hp]; · iexact Hp
        iexact Ho
      iintro ⟨Hg, Ho⟩
      iapply Hk
      isplitr [Ho]
      · isplitl [Hf]; · iexact Hf
        isplitl [Hg]; · iexact Hg
        iexact Hr
      iexact Ho
  · have hr : (fun g : Slot => recvSt m c (n + 1) g) = fun g => recvSt m c n g := funext fun g => by
      unfold recvSt
      by_cases h : n ≤ 8 * passOf g
      · rw [if_pos h, if_pos (by omega)]
      · rw [if_neg h, if_neg (by omega)]
    unfold passSt
    rw [hr, show ownSt m c n = ownGot m c from if_neg (by omega), show ownSt m c (n + 1) = ownGot m c from if_neg (by omega)]
    dsimp only
    rw [Prog.pure_eq_ret, wp_ret]
    iintro ⟨⟨-, Hp, Ho⟩, Hk⟩
    imodintro
    iapply Hk
    isplitl [Hp]; · iexact Hp
    iexact Ho

/-! ## The products -/

theorem wRead_subset (p : Fin 2) : (wbufM : Memref sig .tc .vmem S2x2048x512 .f32).view.setOn (wRect p).toLoadRect.set ⊆ (wSlot p).view.set := by
  rw [show (wSlot p).view.set = ((View.whole cc0_scratch2 : View sig .tc _ _ _).slice (wRect p)).set from View.set_reshape _ _]
  exact subset_of_eq (View.set_slice _ _).symm
theorem gRead_subset (g : Slot) : (recvM : Memref sig .tc .vmem S6x1024x2048 .bf16).view.setOn (gRect g).toLoadRect.set ⊆ (rSlot g).view.set := by
  rw [show (rSlot g).view.set = ((View.whole cc0_scratch1 : View sig .tc _ _ _).slice (gRect g)).set from View.set_reshape _ _]
  exact subset_of_eq (View.set_slice _ _).symm

theorem hz2 : (![0, 0] : Fin 2 → ℕ) = fun _ => 0 := funext fun a => by fin_cases a <;> rfl
omit [FloatOps F] in
theorem read_own (f : (cc0_scratch0 : Ref sig .tc).ty.Contents (Elt F)) : ownM.view.readAt (Elt F) ownRect.toLoadRect f = f :=
  Memref.readAt_unit_zero (Elt F) cc0_scratch0 hz2 _ f

/-- A product of the first pass. -/
theorem prodOwn_spec (c : Dev nD) (p : Fin 2) (t : Fin 8) (fw : Buf (Elt F) ((c : Thread nD τ).loc cc0_scratch2))
    (x : (cc0_scratch0 : Ref sig .tc).ty.Contents (Elt F)) (o : (cc0_stg0_0 : Ref sig .tc).ty.Contents (Elt F)) (Kt : PUnit → sProp 𝕄) :
    iprop((wSlotPts c p fw ∗ (((c : Thread nD τ).loc cc0_scratch0) ↦{fullShare} x) ∗ outPts c o)
        ∗ ((wSlotPts c p fw ∗ (((c : Thread nD τ).loc cc0_scratch0) ↦{fullShare} x)
            ∗ outPts c ((oM.access (fullR t)).write (Elt F) o (payOwn (wbufM.view.readAt (Elt F) (wRect p).toLoadRect fw) x) Finset.univ)) -∗ Kt ⟨⟩))
      ⊢ wp frame (wpE (defs₀ (F := F)) 𝒱₀ c none) Set.univ (prodOwn p t) Kt := by
  unfold prodOwn
  simp only [Prog.lift, Prog.bind_op, Prog.bind_ret, Prog.pure_eq_ret]
  iintro ⟨⟨Hw, Hx, Ho⟩, Hk⟩
  iapply (wp_load 𝒱₀ (c : Thread nD τ) none Set.univ (m := wbufM) (wRead_subset p)) $$ Hw; iintro Hw
  iapply (wp_load 𝒱₀ (c : Thread nD τ) none Set.univ (m := ownM) (Finset.subset_univ _)) $$ Hx; iintro Hx
  rw [read_own]
  iapply (wp_load 𝒱₀ (c : Thread nD τ) none Set.univ (m := oM) (Finset.subset_univ _)) $$ Ho; iintro Ho
  iapply (wp_store 𝒱₀ (c : Thread nD τ) none Set.univ (m := oM) (r := fullR t) (Mk := Finset.univ) (Finset.subset_univ _)) $$ Ho; iintro Ho
  rw [wp_ret]; imodintro
  iapply Hk
  isplitl [Hw]; · iexact Hw
  isplitl [Hx]; · iexact Hx
  iexact Ho

/-- A product of a later pass. -/
theorem prodAcc_spec (c : Dev nD) (p : Fin 2) (j : ℕ) (t : Fin 8) (fw : Buf (Elt F) ((c : Thread nD τ).loc cc0_scratch2))
    (fr : Buf (Elt F) ((c : Thread nD τ).loc cc0_scratch1)) (o : (cc0_stg0_0 : Ref sig .tc).ty.Contents (Elt F)) (Kt : PUnit → sProp 𝕄) :
    iprop((wSlotPts c p fw ∗ slotPts c (gIx j) fr ∗ outPts c o)
        ∗ ((wSlotPts c p fw ∗ slotPts c (gIx j) fr
            ∗ outPts c ((oM.access (halfR (hIx j) t)).write (Elt F) o (payAt j (wbufM.view.readAt (Elt F) (wRect p).toLoadRect fw)
                (recvM.view.readAt (Elt F) (gRect (gIx j)).toLoadRect fr) (oM.view.readAt (Elt F) (halfR (hIx j) t).toLoadRect o)) Finset.univ)) -∗ Kt ⟨⟩))
      ⊢ wp frame (wpE (defs₀ (F := F)) 𝒱₀ c none) Set.univ (prodAcc p j t) Kt := by
  unfold prodAcc slotPts
  simp only [Prog.lift, Prog.bind_op, Prog.bind_ret, Prog.pure_eq_ret]
  iintro ⟨⟨Hw, Hx, Ho⟩, Hk⟩
  iapply (wp_load 𝒱₀ (c : Thread nD τ) none Set.univ (m := wbufM) (wRead_subset p)) $$ Hw; iintro Hw
  iapply (wp_load 𝒱₀ (c : Thread nD τ) none Set.univ (m := recvM) (gRead_subset (gIx j))) $$ Hx; iintro Hx
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := halfR (hIx j) t) (Mk := Finset.univ) (Finset.subset_univ _)) $$ Ho; iintro Ho
  rw [wp_ret]; imodintro
  iapply Hk
  isplitl [Hw]; · iexact Hw
  isplitl [Hx]; · iexact Hx
  iexact Ho

/-- Step `n`'s product. -/
theorem prod_spec (c : Dev nD) (n : ℕ) (hn : n < 56) (o : (cc0_stg0_0 : Ref sig .tc).ty.Contents (Elt F)) (Kt : PUnit → sProp 𝕄) :
    iprop((wSlotPts c (par n) (wLanded m c n) ∗ passSt m c (n + 1) ∗ outPts c o)
        ∗ ((wSlotPts c (par n) (wLanded m c n) ∗ passSt m c (n + 1) ∗ outPts c (outNext m c n o)) -∗ Kt ⟨⟩))
      ⊢ wp frame (wpE (defs₀ (F := F)) 𝒱₀ c none) Set.univ (prod n) Kt := by
  unfold prod outNext
  rcases hj : n / 8 with _ | j
  · unfold passSt
    rw [show ownSt m c (n + 1) = ownGot m c from if_neg (by omega)]
    unfold ownGot
    iintro ⟨⟨Hw, ⟨⟨Hx, Hx'⟩, Hr⟩, Ho⟩, Hk⟩
    iapply (prodOwn_spec c (par n) (col n) (wLanded m c n) (ownVal m c) o Kt)
    isplitl [Hw Hx Ho]
    · isplitl [Hw]; · iexact Hw
      isplitl [Hx]; · iexact Hx
      iexact Ho
    iintro ⟨Hw, Hx, Ho⟩
    iapply Hk
    isplitl [Hw]; · iexact Hw
    isplitr [Ho]
    · isplitr [Hr]
      · isplitl [Hx]; · iexact Hx
        iexact Hx'
      iexact Hr
    iexact Ho
  · have hp : passOf (gIx (j + 1)) = j + 1 := passOf_gIx (by omega) (by omega)
    unfold passSt
    rw [bigSep_at (gIx (j + 1)),
      show recvSt m c (n + 1) (gIx (j + 1)) = recvGot m c (gIx (j + 1)) from if_neg (by rw [hp]; omega)]
    unfold recvGot
    iintro ⟨⟨Hw, ⟨Hown, ⟨Hx, Hat⟩, Hr⟩, Ho⟩, Hk⟩
    iapply (prodAcc_spec c (par n) (j + 1) (col n) (wLanded m c n) (landed m c (gIx (j + 1))) o Kt)
    isplitl [Hw Hx Ho]
    · isplitl [Hw]; · iexact Hw
      isplitl [Hx]; · iexact Hx
      iexact Ho
    iintro ⟨Hw, Hx, Ho⟩
    iapply Hk
    isplitl [Hw]; · iexact Hw
    isplitr [Ho]
    · isplitl [Hown]; · iexact Hown
      isplitr [Hr]
      · isplitl [Hx]; · iexact Hx
        iexact Hat
      iexact Hr
    iexact Ho

/-! ## A step, and all of them -/

/-- What the device holds before step `n`. -/
def stepSt (c : Dev nD) (o : (cc0_stg0_0 : Ref sig .tc).ty.Contents (Elt F)) (n : ℕ) : sProp 𝕄 :=
  iprop(fetch m c n ∗ wSlotAny c (par (n + 1)) ∗ passSt m c n ∗ outPts c (outSeq m c o n) ∗ free c)

theorem step_spec (K : Dev nD × CK → ℕ) (c : Dev nD) (o : (cc0_stg0_0 : Ref sig .tc).ty.Contents (Elt F)) (n : ℕ) (hn : n < 56) (Kt : PUnit → sProp 𝕄) :
    iprop((records m K ∗ stepSt m c o n) ∗ (stepSt m c o (n + 1) -∗ Kt ⟨⟩))
      ⊢ wp frame (wpE (defs₀ (F := F)) 𝒱₀ c none) Set.univ (step c n) Kt := by
  unfold step stepSt
  rw [show fetch m c n = iprop(wFly m c n ∗ semVal (wCell c (par (n + 1))) 0) from if_neg (by omega), par_two]
  simp only [wp_bind]
  iintro ⟨⟨#HR, ⟨Hf, Hv'⟩, Hs', Hp, Hout, Ho⟩, Hk⟩
  iapply (wWait_spec m c n _)
  isplitl [Hf Ho]
  · isplitl [Hf]; · iexact Hf
    iexact Ho
  iintro ⟨Hw, Hs, Hv, Ho⟩
  iapply (ahead_spec m c n _)
  isplitl [Hw Hs' Hv Hv']
  · isplitl [Hw]; · iexact Hw
    isplitl [Hs']; · iexact Hs'
    isplitl [Hv]; · iexact Hv
    iexact Hv'
  iintro Hf
  iapply (passWait_spec m K c n hn _)
  isplitl [Hp Ho]
  · isplitr; · iexact HR
    isplitl [Hp]; · iexact Hp
    iexact Ho
  iintro ⟨Hp, Ho⟩
  iapply (prod_spec m c n hn (outSeq m c o n) _)
  isplitl [Hs Hp Hout]
  · isplitl [Hs]; · iexact Hs
    isplitl [Hp]; · iexact Hp
    iexact Hout
  iintro ⟨Hs, Hp, Hout⟩
  iapply Hk
  isplitl [Hf]; · iexact Hf
  isplitl [Hs]; · iexists _; iexact Hs
  isplitl [Hp]; · iexact Hp
  isplitl [Hout]; · iexact Hout
  iexact Ho

theorem steps_spec (K : Dev nD × CK → ℕ) (c : Dev nD) (o : (cc0_stg0_0 : Ref sig .tc).ty.Contents (Elt F)) (Kt : PUnit → sProp 𝕄) :
    ∀ k n : ℕ, n + k = 56 → iprop((records m K ∗ stepSt m c o n) ∗ (stepSt m c o 56 -∗ Kt ⟨⟩))
      ⊢ wp frame (wpE (defs₀ (F := F)) 𝒱₀ c none) Set.univ (steps c k n) Kt
  | 0, n, h => by
    obtain rfl : n = 56 := by omega
    unfold steps
    rw [Prog.pure_eq_ret, wp_ret]
    iintro ⟨⟨-, H⟩, Hk⟩
    imodintro
    iapply Hk; iexact H
  | k + 1, n, h => by
    unfold steps
    rw [wp_bind]
    iintro ⟨⟨#HR, H⟩, Hk⟩
    iapply (step_spec m K c o n (by omega) _)
    isplitl [H]
    · isplitr; · iexact HR
      iexact H
    iintro H
    iapply (steps_spec K c o Kt k (n + 1) (by omega))
    isplitr [Hk]
    · isplitr; · iexact HR
      iexact H
    iexact Hk

end Cert.Mesh

end
-- ==== Proof.Buffers.lean ====
/-
# The buffers in pieces

The launch hands a device its buffers whole. The landing buffer is held as six slots, the buffer of blocks of `w` as
two, and the device's columns of `x` as seven read shares: one for each of the six copies sent and one for the copy of
the device's own rows, each cut to the rows that copy reads.
-/
module

public import proofs.«01_k».proof.Proof.Loop
public import Idealize.ShloMosaic.Lib.Ring
public import Idealize.ShloMosaic.Lib.Pipeline.ValueKit.Geometry

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The slots -/

/-- The elements of slot `g`; -/
def rSet (g : Slot) : Finset S6x1024x2048.Idx := (rSlot g).view.set
/-- of slot `p` of the blocks of `w`. -/
def wSet (p : Fin 2) : Finset S2x2048x512.Idx := (wSlot p).view.set

/-- Slot `g` is the row of that number of the landing buffer. -/
theorem mem_rSlot (g : Slot) (i : S6x1024x2048.Idx) : i ∈ rSet g ↔ (i 0).val = g.num := by
  rw [show rSet g = ((View.whole cc0_scratch1 : View sig .tc _ _ _).slice (gRect g)).set from View.set_reshape _ _,
    View.set_slice_whole]
  refine Rect.mem_set_unit.trans ⟨fun h => ?_, fun h a => ?_⟩
  · have h0 : g.num ≤ (i 0).val ∧ (i 0).val < g.num + 1 := h 0
    omega
  · match a with
    | ⟨0, _⟩ => exact (show g.num ≤ (i 0).val ∧ (i 0).val < g.num + 1 by omega)
    | ⟨1, _⟩ => exact (show 0 ≤ (i 1).val ∧ (i 1).val < 0 + 1024 from ⟨Nat.zero_le _, by rw [Nat.zero_add]; exact (i 1).isLt⟩)
    | ⟨2, _⟩ => exact (show 0 ≤ (i 2).val ∧ (i 2).val < 0 + 2048 from ⟨Nat.zero_le _, by rw [Nat.zero_add]; exact (i 2).isLt⟩)

/-- Slot `p` is the row of that number of the buffer of blocks. -/
theorem mem_wSlot (p : Fin 2) (i : S2x2048x512.Idx) : i ∈ wSet p ↔ (i 0).val = p.val := by
  rw [show wSet p = ((View.whole cc0_scratch2 : View sig .tc _ _ _).slice (wRect p)).set from View.set_reshape _ _,
    View.set_slice_whole]
  refine Rect.mem_set_unit.trans ⟨fun h => ?_, fun h a => ?_⟩
  · have h0 : p.val ≤ (i 0).val ∧ (i 0).val < p.val + 1 := h 0
    omega
  · match a with
    | ⟨0, _⟩ => exact (show p.val ≤ (i 0).val ∧ (i 0).val < p.val + 1 by omega)
    | ⟨1, _⟩ => exact (show 0 ≤ (i 1).val ∧ (i 1).val < 0 + 2048 from ⟨Nat.zero_le _, by rw [Nat.zero_add]; exact (i 1).isLt⟩)
    | ⟨2, _⟩ => exact (show 0 ≤ (i 2).val ∧ (i 2).val < 0 + 512 from ⟨Nat.zero_le _, by rw [Nat.zero_add]; exact (i 2).isLt⟩)

theorem num_injective (g g' : Slot) (h : g.num = g'.num) : g = g' := by revert g g'; decide
theorem num_surj (k : Fin 6) : ∃ g : Slot, k.val = g.num := by revert k; decide

theorem rSlot_disjoint (g g' : Slot) (h : g ≠ g') : Disjoint (rSet g) (rSet g') :=
  Finset.disjoint_left.mpr fun i hi hi' => h (num_injective g g' (((mem_rSlot g i).mp hi).symm.trans ((mem_rSlot g' i).mp hi')))
theorem rSlot_cover : (Finset.univ : Finset Slot).biUnion rSet = Finset.univ :=
  Finset.eq_univ_iff_forall.mpr fun i => by
    obtain ⟨g, hg⟩ := num_surj (show Fin 6 from i 0)
    exact Finset.mem_biUnion.mpr ⟨g, Finset.mem_univ _, (mem_rSlot g i).mpr hg⟩
theorem wSlot_disjoint (p p' : Fin 2) (h : p ≠ p') : Disjoint (wSet p) (wSet p') :=
  Finset.disjoint_left.mpr fun i hi hi' => h (Fin.ext (((mem_wSlot p i).mp hi).symm.trans ((mem_wSlot p' i).mp hi')))
theorem wSlot_cover : (Finset.univ : Finset (Fin 2)).biUnion wSet = Finset.univ :=
  Finset.eq_univ_iff_forall.mpr fun i =>
    Finset.mem_biUnion.mpr ⟨(show Fin 2 from i 0), Finset.mem_univ _, (mem_wSlot _ i).mpr rfl⟩

/-- The landing buffer, slot by slot; -/
theorem recv_split (c : Dev nD) (f : Buf (Elt F) ((c : Thread nD τ).loc cc0_scratch1)) :
    (((c : Thread nD τ).loc cc0_scratch1) ↦{fullShare} f : sProp 𝕄) ⊢ bigSep Finset.univ fun g : Slot => iprop(∃ f, slotPts c g f) := by
  rw [Ring.pointsTo_blocks rSet rSlot_disjoint rSlot_cover f]
  refine bigSep_mono fun g _ => ?_
  show slotPts c g f ⊢ iprop(∃ f, slotPts c g f)
  iintro H; iexists f; iexact H
include m in
/-- and back. -/
theorem recv_join (c : Dev nD) :
    (bigSep Finset.univ fun g : Slot => iprop(∃ f, slotPts c g f) : sProp 𝕄) ⊢ iprop(∃ f : Buf (Elt F) ((c : Thread nD τ).loc cc0_scratch1), ((c : Thread nD τ).loc cc0_scratch1) ↦{fullShare} f) := by
  have h := Ring.pointsTo_blocks_join_exists (Ix := Unit) (Name := ℕ) (U := UU) (Lvl := ℕ) (q := fullShare) (ℓ := (c : Thread nD τ).loc cc0_scratch1)
    rSet rSlot_disjoint rSlot_cover (m ((c : Thread nD τ).loc cc0_scratch1))
  exact h
/-- The buffer of blocks of `w`, slot by slot; -/
theorem wbuf_split (c : Dev nD) (f : Buf (Elt F) ((c : Thread nD τ).loc cc0_scratch2)) :
    (((c : Thread nD τ).loc cc0_scratch2) ↦{fullShare} f : sProp 𝕄) ⊢ iprop(wSlotAny c 0 ∗ wSlotAny c 1) := by
  rw [Ring.pointsTo_blocks wSet wSlot_disjoint wSlot_cover f, bigSep_univ_two]
  iintro ⟨H0, H1⟩
  isplitl [H0]
  · iexists f; iexact H0
  · iexists f; iexact H1
include m in
/-- and back. -/
theorem wbuf_join (c : Dev nD) :
    (iprop(wSlotAny c 0 ∗ wSlotAny c 1) : sProp 𝕄) ⊢ iprop(∃ f : Buf (Elt F) ((c : Thread nD τ).loc cc0_scratch2), ((c : Thread nD τ).loc cc0_scratch2) ↦{fullShare} f) := by
  have h := Ring.pointsTo_blocks_join_exists (Ix := Unit) (Name := ℕ) (U := UU) (Lvl := ℕ) (q := fullShare) (ℓ := (c : Thread nD τ).loc cc0_scratch2)
    wSet wSlot_disjoint wSlot_cover (m ((c : Thread nD τ).loc cc0_scratch2))
  rw [bigSep_univ_two] at h
  exact h

/-! ## The shares of `x` -/

/-- The device's columns of `x`, whole; -/
abbrev xWhole (c : Dev nD) : sProp 𝕄 := ((c : Thread nD τ).loc main_arg0) ↦{fullShare} xC m c
/-- a read share of them, cut to some rows, and the rest of it. -/
def xIn (c : Dev nD) (k : ℕ) (I : Finset S8192x2048.Idx) : sProp 𝕄 :=
  ((c : Thread nD τ).loc main_arg0) ↦[I]{Transfers.shareTokN fullShare k} xC m c

omit [FloatOps F] in
theorem xIn_split (c : Dev nD) (k : ℕ) (I : Finset S8192x2048.Idx) :
    xIn m c k Finset.univ = iprop(xIn m c k I ∗ xIn m c k (Finset.univ \ I)) := by
  have h := pointsTo_split_subset (Ix := Unit) (Name := ℕ) (U := UU) (Lvl := ℕ) (q := Transfers.shareTokN fullShare k) (f := xC m c) (Finset.subset_univ I)
  unfold xIn
  exact BI.equiv_iff.mp ⟨h.1, h.2⟩

/-- What no copy reads. -/
def xRest (c : Dev nD) : sProp 𝕄 :=
  iprop((((c : Thread nD τ).loc main_arg0) ↦{Transfers.shareDrop fullShare 7} xC m c)
    ∗ (bigSep Finset.univ fun g : Slot => xIn m c g.num (Finset.univ \ (xSrc c g).view.set))
    ∗ xIn m c 6 (Finset.univ \ (xOwn c).view.set))

omit [FloatOps F] in
theorem bigSep_slot (Φ : Slot → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL slots slots_univ slots_nodup Φ

omit [FloatOps F] in
/-- The columns whole are the six copies' rows, the own copy's rows and the rest. -/
theorem x_eq (c : Dev nD) : xWhole m c ⊣⊢ iprop((bigSep Finset.univ fun g : Slot => xPts m c g) ∗ xOwnPts m c ∗ xRest m c) := by
  have h7 : (bigSep Finset.univ fun i : Fin 7 => (((c : Thread nD τ).loc main_arg0) ↦{Transfers.shareTok fullShare 7 i} xC m c : sProp 𝕄))
      = iprop(xIn m c 0 Finset.univ ∗ xIn m c 1 Finset.univ ∗ xIn m c 2 Finset.univ ∗ xIn m c 3 Finset.univ ∗ xIn m c 4 Finset.univ
          ∗ xIn m c 5 Finset.univ ∗ xIn m c 6 Finset.univ) :=
    bigSep_univ_eq_bigSepL [0, 1, 2, 3, 4, 5, 6] (by decide) (by decide) _
  have h6 : (bigSep Finset.univ fun g : Slot => xIn m c g.num Finset.univ)
      = iprop((bigSep Finset.univ fun g : Slot => xPts m c g) ∗ bigSep Finset.univ fun g : Slot => xIn m c g.num (Finset.univ \ (xSrc c g).view.set)) := by
    rw [← bigSep_sep']
    exact bigSep_congr fun g _ => xIn_split m c g.num (xSrc c g).view.set
  have ho : xIn m c 6 Finset.univ = iprop(xOwnPts m c ∗ xIn m c 6 (Finset.univ \ (xOwn c).view.set)) := xIn_split m c 6 (xOwn c).view.set
  rw [bigSep_slot] at h6
  unfold xRest
  constructor
  · refine (Transfers.pointsTo_toks fullShare 7).1.trans ?_
    rw [h7]
    iintro ⟨Hd, H0, H1, H2, H3, H4, H5, H6⟩
    ihave Hs := (Entails.of_eq h6) $$ [H0 H1 H2 H3 H4 H5]
    · isplitl [H0]; · iexact H0
      isplitl [H1]; · iexact H1
      isplitl [H2]; · iexact H2
      isplitl [H3]; · iexact H3
      isplitl [H4]; · iexact H4
      iexact H5
    ihave Ho := (Entails.of_eq ho) $$ H6
    icases Hs with ⟨Hs, Hs'⟩
    icases Ho with ⟨Ho, Ho'⟩
    isplitl [Hs]; · iexact Hs
    isplitl [Ho]; · iexact Ho
    isplitl [Hd]; · iexact Hd
    isplitl [Hs']; · iexact Hs'
    iexact Ho'
  · refine BIBase.Entails.trans ?_ (Transfers.pointsTo_toks fullShare 7).2
    rw [h7]
    iintro ⟨Hs, Ho, Hd, Hs', Ho'⟩
    ihave H := (Entails.of_eq h6.symm) $$ [Hs Hs']
    · isplitl [Hs]; · iexact Hs
      iexact Hs'
    ihave H6 := (Entails.of_eq ho.symm) $$ [Ho Ho']
    · isplitl [Ho]; · iexact Ho
      iexact Ho'
    icases H with ⟨H0, H1, H2, H3, H4, H5⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    iexact H6

end Cert.Mesh

end
-- ==== Proof.Outcome.lean ====
/-
# The result, element by element

A step's store replaces one tile of the result and leaves the rest. The first eight steps together store every element
without reading the result, so what the result holds at the end does not depend on what it held at the beginning.
-/
module

public import proofs.«01_k».proof.Proof.Loop

@[expose] public section

noncomputable section

namespace Cert.Mesh

open Cert.KernelIdeal Cert.KernelIdeal.Gen
open Idealize.ShloMosaic Idealize.ShloMosaic.TcCoe

variable {F : FTy → Type} [FloatOps F]

variable (m : (ℓ : Loc nD τ sig) → Buf (Elt F) ℓ)

/-- What the result's buffer holds. -/
abbrev Out (F : FTy → Type) : Type := (cc0_stg0_0 : Ref sig .tc).ty.Contents (Elt F)

/-! ## One store -/

section Store
variable (off size : Fin S2048x4096.rank → ℕ) (inb : ∀ a, off a + size a ≤ S2048x4096.size a) (o : Out F)
  (p : (Rect.unit (s := S2048x4096) off size inb).shape.Idx → Elt F .bf16)

omit [FloatOps F] in
/-- An element of the tile stored holds the payload; -/
theorem store_in (x : (Rect.unit (s := S2048x4096) off size inb).shape.Idx) (i : S2048x4096.Idx) (h : ∀ a, (i a).val = off a + (x a).val) :
    (oM.access (Rect.unit (s := S2048x4096) off size inb)).write (Elt F) o p Finset.univ i = p x := by
  have hi : i = (oM.access (Rect.unit (s := S2048x4096) off size inb)).emb x := by
    funext a
    refine Fin.ext ((h a).trans ?_)
    show off a + (x a).val = off a + 1 * (x a).val
    rw [Nat.one_mul]
  rw [hi, View.write_emb_of_mem _ _ (Finset.mem_univ x)]
  rfl

omit [FloatOps F] in
/-- any other keeps what it held. -/
theorem store_off (i : S2048x4096.Idx) (h : ¬ ∀ a, off a ≤ (i a).val ∧ (i a).val < off a + size a) :
    (oM.access (Rect.unit (s := S2048x4096) off size inb)).write (Elt F) o p Finset.univ i = o i := by
  refine View.write_of_not_mem _ _ _ fun hm => h ?_
  have hm' : i ∈ ((View.whole cc0_stg0_0 : View sig .tc _ _ _).slice (Rect.unit (s := S2048x4096) off size inb)).set := hm
  rw [View.set_slice_whole] at hm'
  exact Rect.mem_set_unit.mp hm'
end Store

/-! ## The steps of the first pass -/

/-- An index of a tile of the first pass, -/
def fullIx (i : S2048x4096.Idx) : S2048x512.Idx :=
  fun | ⟨0, _⟩ => ⟨(i 0).val, (i 0).isLt⟩ | ⟨1, _⟩ => ⟨(i 1).val % 512, Nat.mod_lt _ (by decide)⟩

/-- A step of the first pass stores its columns -/
theorem first_in (c : Dev nD) (n : ℕ) (hn : n < 8) (o : Out F) (i : S2048x4096.Idx) (hi : (i 1).val / 512 = n) :
    outNext m c n o i = payOwn (wVal m c n) (ownVal m c) (fullIx i) := by
  unfold outNext
  rw [show n / 8 = 0 by omega]
  refine store_in _ _ _ _ _ (fullIx i) i fun a => ?_
  match a with
  | ⟨0, _⟩ => exact (Nat.zero_add _).symm
  | ⟨1, _⟩ =>
    show (i 1).val = 512 * (n % 8) + (i 1).val % 512
    rw [Nat.mod_eq_of_lt hn, ← hi, Nat.div_add_mod]

/-- and no other. -/
theorem first_off (c : Dev nD) (n : ℕ) (hn : n < 8) (o : Out F) (i : S2048x4096.Idx) (hi : (i 1).val / 512 ≠ n) :
    outNext m c n o i = o i := by
  unfold outNext
  rw [show n / 8 = 0 by omega]
  refine store_off _ _ _ _ _ i fun h => hi ?_
  have h1 : 512 * (n % 8) ≤ (i 1).val ∧ (i 1).val < 512 * (n % 8) + 512 := h 1
  omega

/-! ## The later steps -/

/-- An index of a tile of a later pass. -/
def halfIx (i : S2048x4096.Idx) : S1024x512.Idx :=
  fun | ⟨0, _⟩ => ⟨(i 0).val % 1024, Nat.mod_lt _ (by decide)⟩ | ⟨1, _⟩ => ⟨(i 1).val % 512, Nat.mod_lt _ (by decide)⟩

/-- What a later step reads of the result. -/
abbrev halfOf (n : ℕ) (o : Out F) : Vec F S1024x512 .bf16 := oM.view.readAt (Elt F) (halfR (hIx (n / 8)) (col n)).toLoadRect o

omit [FloatOps F] in
theorem halfOf_apply (n : ℕ) (o : Out F) (i : S2048x4096.Idx) (h0 : (i 0).val / 1024 = (hIx (n / 8)).val) (h1 : (i 1).val / 512 = n % 8) :
    halfOf n o (halfIx i) = o i := by
  have : (halfR (hIx (n / 8)) (col n)).toLoadRect.idx (halfIx i) = i := by
    funext a
    refine Fin.ext ?_
    match a with
    | ⟨0, _⟩ =>
      show 1024 * (hIx (n / 8)).val + 1 * ((i 0).val % 1024) = (i 0).val
      rw [← h0]; omega
    | ⟨1, _⟩ =>
      show 512 * (n % 8) + 1 * ((i 1).val % 512) = (i 1).val
      rw [← h1]; omega
  unfold halfOf
  rw [View.readAt_apply, this]
  rfl

/-- A later step stores its tile -/
theorem later_in (c : Dev nD) (n : ℕ) (hn : 8 ≤ n) (o : Out F) (i : S2048x4096.Idx)
    (h0 : (i 0).val / 1024 = (hIx (n / 8)).val) (h1 : (i 1).val / 512 = n % 8) :
    outNext m c n o i = payAt (n / 8) (wVal m c n) (rVal m c (gIx (n / 8))) (halfOf n o) (halfIx i) := by
  have hj : ∃ j, n / 8 = j + 1 := ⟨n / 8 - 1, by omega⟩
  obtain ⟨j, hj⟩ := hj
  unfold outNext halfOf
  rw [hj] at h0 ⊢
  refine store_in _ _ _ _ _ (halfIx i) i fun a => ?_
  match a with
  | ⟨0, _⟩ =>
    show (i 0).val = 1024 * (hIx (j + 1)).val + (i 0).val % 1024
    rw [← h0]; omega
  | ⟨1, _⟩ =>
    show (i 1).val = 512 * (n % 8) + (i 1).val % 512
    rw [← h1]; omega

/-- and nothing else. -/
theorem later_off (c : Dev nD) (n : ℕ) (hn : 8 ≤ n) (o : Out F) (i : S2048x4096.Idx)
    (h : ¬ ((i 0).val / 1024 = (hIx (n / 8)).val ∧ (i 1).val / 512 = n % 8)) :
    outNext m c n o i = o i := by
  have hj : ∃ j, n / 8 = j + 1 := ⟨n / 8 - 1, by omega⟩
  obtain ⟨j, hj⟩ := hj
  unfold outNext
  rw [hj] at h ⊢
  refine store_off _ _ _ _ _ i fun hh => h ⟨?_, ?_⟩
  · have h1 : 1024 * (hIx (j + 1)).val ≤ (i 0).val ∧ (i 0).val < 1024 * (hIx (j + 1)).val + 1024 := hh 0
    omega
  · have h1 : 512 * (n % 8) ≤ (i 1).val ∧ (i 1).val < 512 * (n % 8) + 512 := hh 1
    omega

/-! ## Nothing of the first contents is left -/

theorem outSeq_first (c : Dev nD) (o o' : Out F) : ∀ n, n ≤ 8 → ∀ i : S2048x4096.Idx, (i 1).val / 512 < n → outSeq m c o n i = outSeq m c o' n i
  | 0, _, _, h => absurd h (Nat.not_lt_zero _)
  | n + 1, hn, i, h => by
    show outNext m c n (outSeq m c o n) i = outNext m c n (outSeq m c o' n) i
    by_cases hi : (i 1).val / 512 = n
    · rw [first_in m c n (by omega) _ i hi, first_in m c n (by omega) _ i hi]
    · rw [first_off m c n (by omega) _ i hi, first_off m c n (by omega) _ i hi]
      exact outSeq_first c o o' n (by omega) i (by omega)

theorem outSeq_indep (c : Dev nD) (o o' : Out F) : ∀ k, outSeq m c o (8 + k) = outSeq m c o' (8 + k)
  | 0 => funext fun i => outSeq_first m c o o' 8 (Nat.le_refl 8) i (by
      have : (i 1).val < 4096 := (i 1).isLt
      omega)
  | k + 1 => congrArg (outNext m c (8 + k)) (outSeq_indep c o o' k)

/-- What device `c`'s result holds at the end. -/
def outAt (c : Dev nD) : Out F := outSeq m c (m ((c : Thread nD τ).loc cc0_stg0_0)) 56

theorem outSeq_end (c : Dev nD) (o : Out F) : outSeq m c o 56 = outAt m c := outSeq_indep m c _ _ 48

end Cert.Mesh

end
-- ==== Proof.Body.lean ====
/-
# The body of one device

Before the passes: three barrier signals, the barrier wait, the copy of the device's own rows, the six copies to the
peers, the first fetch. After them: the waits for the six copies sent. Each effect has a specification of its own, and
the body is their composition around the passes of `Loop.lean`.
-/
module

public import proofs.«01_k».proof.Proof.Buffers
public import proofs.«01_k».proof.Proof.Outcome

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

section Effects
variable (K : Dev nD × CK → ℕ) (c : Dev nD)

/-- A landing slot, holding anything. -/
abbrev slotAny (c : Dev nD) (g : Slot) : sProp 𝕄 := iprop(∃ f, slotPts c g f)

/-- A signal to the device `r + 1` down the ring hands it the two slots of `c` that it writes. -/
theorem signal_spec (Kt : PUnit → sProp 𝕄) (r : Fin 3) (l : List (Fin 3)) (n : Dev nD) (hn : n = dn c r) (W : Waits sig Unit) :
    iprop((records m K ∗ owes (c : Thread nD τ) (oweB c (r :: l)) W ∗ dutyTok ER (barCell (dn c r)) 0 r ∗ slotAny c (r, 0) ∗ slotAny c (r, 1))
        ∗ (owes (c : Thread nD τ) (oweB c l) W -∗ Kt ⟨⟩))
      ⊢ wp frame (wpE (defs₀ (F := F)) 𝒱₀ c none) Set.univ (semSignalWord n barS 1#32) Kt := by
  subst hn
  simp only [semSignalWord, Prog.lift]
  iintro ⟨⟨#HR, HO, Ht, Hs0, Hs1⟩, Hk⟩
  iapply (Rounds.wp_signal 𝒱₀ ER (Rd m) (c : Thread nD τ) none (dst := (dn c r : Thread nD τ)) (κ := K (dn c r, .inl ()))
      (d := r) (by rw [duties_bar]; exact Finset.mem_univ _) ((amount_bar m (dn c r) r).trans (by decide)) () (oweB c l) rfl)
    $$ [HO Ht Hs0 Hs1]
  · isplitr; · iapply (inv_at m K (dn c r, .inl ())); iexact HR
    isplitl [HO]; · iexact HO
    isplitl [Ht]; · iexact Ht
    isplitl [Hs0 Hs1]
    · rw [payload_bar]; unfold barPay slotPay; rw [up_dn]
      isplitl [Hs0]
      · isplitl [Hs0]; · iexact Hs0
        iapply (reached_at m K (c, .inr (.inr (r, 0)))); iexact HR
      · isplitl [Hs1]; · iexact Hs1
        iapply (reached_at m K (c, .inr (.inr (r, 1)))); iexact HR
    · iapply (reached_at m K (dn c r, .inl ())); iexact HR
  iintro HO
  rw [wp_ret]; imodintro
  iapply Hk; iexact HO

/-- The barrier wait brings the six slots of the peers that the device writes. -/
theorem barrier_spec (Kt : PUnit → sProp 𝕄) (W : Waits sig Unit) :
    iprop((records m K ∗ levAts L lv ∗ owes (c : Thread nD τ) (oweS c slots) W ∗ cred (tallyAt (barCell c) () 3) ∗ atPos ER (barCell c) 0 ∅ 0)
        ∗ ((owes (c : Thread nD τ) (oweS c slots) (insert (SemLoc.reg barS, ()) W) ∗ atPos ER (barCell c) 1 ∅ 0
            ∗ barPay c 0 ∗ barPay c 1 ∗ barPay c 2) -∗ Kt ⟨⟩))
      ⊢ wp frame (wpE (defs₀ (F := F)) 𝒱₀ c none) Set.univ (semWaitWord barS 3#32) Kt := by
  simp only [semWaitWord, Prog.lift]
  iintro ⟨⟨#HR, #Hlev, HO, Hc, Hat⟩, Hk⟩
  iapply (Rounds.wp_wait_rest_token 𝒱₀ ER (Rd m) (c : Thread nD τ) none (κ := K (c, .inl ()))
      (wpE_semWait_eq 𝒱₀ (c : Thread nD τ) none Set.univ) (Set.mem_univ _) () (O := oweS c slots) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hpay⟩
  rw [wp_ret]; imodintro
  iapply Hk
  isplitl [HO]; · iexact HO
  isplitl [Hat]; · iexact Hat
  iapply (Entails.of_eq (rest_bar m c)); iexact Hpay

/-! ## The cells closed -/

omit [FloatOps F] in
/-- A cell past its one round closes, and its counter is zero. -/
theorem close_at (ck : Dev nD × CK) : iprop(records m K ∗ atPos ER (kcell ck) 1 ∅ 0) ⊢ (iprop(|={Set.univ}=> semVal (kcell ck) 0) : sProp 𝕄) := by
  iintro ⟨#HR, Hat⟩
  iapply (Rounds.cell_close ER (Rd m) (Set.mem_univ (K ck)) (fun h => h) (R := 0 + 1) (duties_later m (kcell ck)))
  isplitr; · iapply (inv_at m K ck); iexact HR
  iexact Hat

omit [FloatOps F] in
theorem close_all (k : Slot → CK) :
    iprop(records m K ∗ bigSep Finset.univ fun g : Slot => atPos ER (kcell (c, k g)) 1 ∅ 0)
      ⊢ (iprop(|={Set.univ}=> bigSep Finset.univ fun g : Slot => semVal (kcell (c, k g)) 0) : sProp 𝕄) := by
  rw [bigSep_slot, bigSep_slot]
  iintro ⟨#HR, H0, H1, H2, H3, H4, H5⟩
  imod (close_at m K (c, k (0, 0))) $$ [H0] with Z0
  · isplitr; · iexact HR
    iexact H0
  imod (close_at m K (c, k (0, 1))) $$ [H1] with Z1
  · isplitr; · iexact HR
    iexact H1
  imod (close_at m K (c, k (1, 0))) $$ [H2] with Z2
  · isplitr; · iexact HR
    iexact H2
  imod (close_at m K (c, k (1, 1))) $$ [H3] with Z3
  · isplitr; · iexact HR
    iexact H3
  imod (close_at m K (c, k (2, 0))) $$ [H4] with Z4
  · isplitr; · iexact HR
    iexact H4
  imod (close_at m K (c, k (2, 1))) $$ [H5] with Z5
  · isplitr; · iexact HR
    iexact H5
  imodintro
  isplitl [Z0]; · iexact Z0
  isplitl [Z1]; · iexact Z1
  isplitl [Z2]; · iexact Z2
  isplitl [Z3]; · iexact Z3
  isplitl [Z4]; · iexact Z4
  iexact Z5

/-! ## The copies -/

omit [FloatOps F] in
theorem write_own (f : Buf (Elt F) ((c : Thread nD τ).loc cc0_scratch0)) :
    ((ownM : Memref sig .tc .vmem S2048x2048 .bf16).view.write (Elt F) f ((xOwn c).view.read (Elt F) (xC m c)) Finset.univ) = ownVal m c :=
  View.write_whole_univ _ _ _

/-- The copy of the device's own rows starts. -/
theorem ownStart_spec (Kt : PUnit → sProp 𝕄) :
    iprop((xOwnPts m c ∗ (∃ f : Buf (Elt F) ((c : Thread nD τ).loc cc0_scratch0), ((c : Thread nD τ).loc cc0_scratch0) ↦{fullShare} f) ∗ semVal (ownCell c) 0)
        ∗ (ownFly m c -∗ Kt ⟨⟩))
      ⊢ wp frame (wpE (defs₀ (F := F)) 𝒱₀ c none) Set.univ (ownStart c) Kt := by
  unfold ownStart ownFly
  simp only [Prog.lift]
  iintro ⟨⟨Hx, ⟨%f, Hs⟩, Hv⟩, Hk⟩
  iapply (Transfers.wp_dmaLocal EC 𝒱₀ (c : Thread nD τ) none (src := xOwn c) (dst := ownM) (sm := .dma ownSem)
      (Sd := Finset.univ) () No rfl No_pos (Finset.subset_univ _)) $$ [Hx Hs Hv]
  · isplitl [Hx]; · iexact Hx
    isplitl [Hs]; · iexact Hs
    iexact Hv
  iintro Hf
  rw [wp_ret]; imodintro
  iapply Hk
  iapply (Transfers.Flight_mono EC (c : Thread nD τ) (sep_mono_left (Entails.of_eq
    (congrArg (fun v => (((c : Thread nD τ).loc cc0_scratch0) ↦{fullShare} v : sProp 𝕄)) (write_own m c f))))); iexact Hf

/-- What the copy leaves on the slot it goes to. -/
theorem landed_there (g : Slot) (fd : Buf (Elt F) ((up c g.1 : Thread nD τ).loc cc0_scratch1)) :
    (((up c g.1 : Thread nD τ).loc cc0_scratch1) ↦[(rSlot g).view.set]{fullShare}
        ((rSlot g).view.write (Elt F) fd ((xSrc c g).view.read (Elt F) (xC m c)) Finset.univ) : sProp 𝕄)
      = slotPts (up c g.1) g (landed m (up c g.1) g) := by
  have h := landed_congr m (up c g.1) g fd
  rw [dn_up] at h
  exact h

/-- The copy to slot `g` of the device it goes to, sent. -/
theorem send_at (g : Slot) (n : Dev nD) (hn : n = up c g.1) (W : Waits sig Unit) (O : CellTallies nD τ sig Unit)
    (fd : Buf (Elt F) ((up c g.1 : Thread nD τ).loc cc0_scratch1))
    {hsc : (rSlot g : Memref sig (Dev.tc n : Thread nD τ).2.kind .vmem S1024x2048 .bf16).view.ref.isScScratch = false}
    {hsrc : (xSrc c g).view.WordExact} {hdst : (rSlot g).view.WordExact}
    {hsem : DmaTarget.Typed .hbm (.dma (recvSem g)) (.remote (Dev.tc n : Thread nD τ) (rSlot g : Memref sig .tc .vmem S1024x2048 .bf16) (.dma (sendSem g)) hsc)}
    {k : PUnit → P F} {Q : PUnit → sProp 𝕄} :
    iprop(cellInv ER (Rd m) (K (c, .inr (.inl g))) (sendCell c g) ∗ cellInv ER (Rd m) (K (up c g.1, .inr (.inr g))) (recvCell (up c g.1) g)
        ∗ xPts m c g ∗ slotPts (up c g.1) g fd
        ∗ owes (c : Thread nD τ) (O + tallyAt (recvCell (up c g.1) g) () N) W
        ∗ dutyTok ER (sendCell c g) 0 0 ∗ reached ER (sendCell c g) 0
        ∗ dutyTok ER (recvCell (up c g.1) g) 0 0 ∗ reached ER (recvCell (up c g.1) g) 0)
      ⊢ iprop(((cred (tallyAt (sendCell c g) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xSrc c g) (.remote (Dev.tc n : Thread nD τ) (rSlot g) (.dma (sendSem g)) hsc) (.dma (recvSem g)) hsrc hdst hsem) k) Q) := by
  subst hn
  have hN : (rSlot g).view.amount (.dma (recvSem g)) = N := (View.amount_dma _ _).trans (N_recv g)
  unfold xPts slotPts
  exact Rounds.wp_send_pointsTo 𝒱₀ ER (Rd m) (c : Thread nD τ) none (c' := (up c g.1 : Thread nD τ)) (src := xSrc c g) (dst := rSlot g)
    (sS := .dma (sendSem g)) (sem := .dma (recvSem g)) (κ₁ := K (c, .inr (.inl g))) (κ₂ := K (up c g.1, .inr (.inr g)))
    (r₁ := 0) (r₂ := 0) (d₁ := 0) (d₂ := 0) (fd := fd)
    (by rw [duties_send]; exact Finset.mem_singleton_self _) (by rw [duties_recv]; exact Finset.mem_singleton_self _)
    () () N hN (amount_send m c g 0) (amount_recv m (up c g.1) g 0) O rfl (W := W)
    (by rw [payload_send]; exact BI.Entails.refl _)
    (by rw [payload_recv]; exact Entails.of_eq (landed_there m c g fd))

theorem send_spec (Kt : PUnit → sProp 𝕄) (g : Slot) (l : List Slot) (W : Waits sig Unit) :
    iprop((records m K ∗ owes (c : Thread nD τ) (oweS c (g :: l)) W ∗ xPts m c g ∗ slotPay (up c g.1) g
          ∗ dutyTok ER (sendCell c g) 0 0 ∗ dutyTok ER (recvCell (up c g.1) g) 0 0)
        ∗ ((cred (tallyAt (sendCell c g) () N) ∗ owes (c : Thread nD τ) (oweS c l) W) -∗ Kt ⟨⟩))
      ⊢ wp frame (wpE (defs₀ (F := F)) 𝒱₀ c none) Set.univ (send c g) Kt := by
  unfold send
  simp only [Prog.lift]
  unfold slotPay
  iintro ⟨⟨#HR, HO, Hx, ⟨⟨%fd, Hs⟩, #Hrn⟩, HtS, HtV⟩, Hk⟩
  iapply (send_at m K c g _ (devOf_eq c g) W (oweS c l) fd) $$ [HO Hx Hs HtS HtV]
  · isplitr; · iapply (inv_at m K (c, .inr (.inl g))); iexact HR
    isplitr; · iapply (inv_at m K (up c g.1, .inr (.inr g))); iexact HR
    isplitl [Hx]; · iexact Hx
    isplitl [Hs]; · iexact Hs
    isplitl [HO]; · iexact HO
    isplitl [HtS]; · iexact HtS
    isplitr; · iapply (reached_at m K (c, .inr (.inl g))); iexact HR
    isplitl [HtV]; · iexact HtV
    iexact Hrn
  iintro ⟨Hc, HO⟩
  rw [wp_ret]; imodintro
  iapply Hk
  isplitl [Hc]; · iexact Hc
  iexact HO

/-- The wait for a copy sent brings its rows of `x` back; its cell closes. -/
theorem sendWait_spec (Kt : PUnit → sProp 𝕄) (g : Slot) :
    iprop((records m K ∗ (atPos ER (sendCell c g) 0 ∅ 0 ∗ cred (tallyAt (sendCell c g) () N)) ∗ free c)
        ∗ (((xPts m c g ∗ semVal (sendCell c g) 0) ∗ free c) -∗ Kt ⟨⟩))
      ⊢ wp frame (wpE (defs₀ (F := F)) 𝒱₀ c none) Set.univ (sendWait c g) Kt := by
  unfold sendWait
  simp only [Prog.lift]
  iintro ⟨⟨#HR, ⟨Hat, Hc⟩, ⟨%W, Ho⟩⟩, Hk⟩
  iapply (Rounds.wp_wait_rest_token 𝒱₀ ER (Rd m) (c : Thread nD τ) none (κ := K (c, .inr (.inl g)))
      (wpE_waitDma2_eq 𝒱₀ (c : Thread nD τ) none Set.univ) (Set.mem_univ _) () (O := 0) (W := W) (R := 0) (m := 0) (T := ∅)
      (by rw [Nat.zero_add, expect_send]; rfl)) $$ [Hc Ho Hat]
  · isplitr; · iapply (inv_at m K (c, .inr (.inl g))); iexact HR
    isplitl [Hc]; · iexact Hc
    isplitl [Ho]; · iexact Ho
    isplitr; · rw [MayWait_zero]; iempintro
    iexact Hat
  iintro ⟨Ho, Hat, -, Hpay⟩
  rw [wp_ret]
  imod (close_at m K (c, .inr (.inl g))) $$ [Hat] with Hz
  · isplitr; · iexact HR
    iexact Hat
  imodintro
  iapply Hk
  isplitr [Ho]
  · isplitl [Hpay]
    · iapply (Entails.of_eq (rest_send m c g)); iexact Hpay
    · iexact Hz
  iexists _; iexact Ho

/-! ## The opening -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-- The tokens the device pays with: the barrier's, -/
def barToks (c : Dev nD) : sProp 𝕄 := bigSep Finset.univ fun r : Fin 3 => dutyTok ER (barCell (dn c r)) 0 r
/-- and a copy's two. -/
def xferToks (c : Dev nD) (g : Slot) : sProp 𝕄 := iprop(dutyTok ER (sendCell c g) 0 0 ∗ dutyTok ER (recvCell (up c g.1) g) 0 0)

/-- What the signals and the copies to the peers leave. -/
def openPost (c : Dev nD) : sProp 𝕄 :=
  iprop(free c ∗ atPos ER (barCell c) 1 ∅ 0 ∗ bigSep Finset.univ fun g : Slot => cred (tallyAt (sendCell c g) () N))
/-- What the local copies start from, -/
def localPre (c : Dev nD) : sProp 𝕄 :=
  iprop((xOwnPts m c ∗ (∃ f : Buf (Elt F) ((c : Thread nD τ).loc cc0_scratch0), ((c : Thread nD τ).loc cc0_scratch0) ↦{fullShare} f) ∗ semVal (ownCell c) 0)
    ∗ (wPts m c ∗ wSlotAny c (par 0) ∗ semVal (wCell c (par 0)) 0))
/-- and what is in flight after the opening. -/
def localPost (c : Dev nD) : sProp 𝕄 := iprop(ownFly m c ∗ wFly m c 0)

set_option maxHeartbeats 800000 in
theorem opening_spec (Kt : PUnit → sProp 𝕄) (W : Waits sig Unit) :
    iprop((records m K ∗ (owes (c : Thread nD τ) (O₀ c) W ∗ levAts L lv ∗ cred (tallyAt (barCell c) () 3) ∗ atPos ER (barCell c) 0 ∅ 0 ∗ barToks c
          ∗ (bigSep Finset.univ fun g : Slot => xferToks c g) ∗ (bigSep Finset.univ fun g : Slot => slotAny c g) ∗ (bigSep Finset.univ fun g : Slot => xPts m c g))
        ∗ localPre m c) ∗ ((openPost c ∗ localPost m c) -∗ Kt ⟨⟩))
      ⊢ wp frame (wpE (defs₀ (F := F)) 𝒱₀ c none) Set.univ (opening c) Kt := by
  unfold opening openPost localPre localPost barToks O₀ xferToks
  rw [bigSep_three, bigSep_slot, bigSep_slot, bigSep_slot, bigSep_slot]
  simp only [wp_bind]
  iintro ⟨⟨#HR, ⟨HO, #Hlev, HcB, HatB, ⟨Hb0, Hb1, Hb2⟩, ⟨⟨Ht0, Hu0⟩, ⟨Ht1, Hu1⟩, ⟨Ht2, Hu2⟩, ⟨Ht3, Hu3⟩, ⟨Ht4, Hu4⟩, ⟨Ht5, Hu5⟩⟩,
    ⟨Hs0, Hs1, Hs2, Hs3, Hs4, Hs5⟩, ⟨Hx0, Hx1, Hx2, Hx3, Hx4, Hx5⟩⟩, ⟨Hown, Hw⟩⟩, Hk⟩
  iapply (signal_spec m K c _ 2 [1, 0] _ (dev1_eq c) W)
  isplitl [HO Hb2 Hs4 Hs5]
  · isplitr; · iexact HR
    isplitl [HO]; · iexact HO
    isplitl [Hb2]; · iexact Hb2
    isplitl [Hs4] <;> iassumption
  iintro HO
  iapply (signal_spec m K c _ 1 [0] _ (dev2_eq c) W)
  isplitl [HO Hb1 Hs2 Hs3]
  · isplitr; · iexact HR
    isplitl [HO]; · iexact HO
    isplitl [Hb1]; · iexact Hb1
    isplitl [Hs2] <;> iassumption
  iintro HO
  iapply (signal_spec m K c _ 0 [] _ (dev3_eq c) W)
  isplitl [HO Hb0 Hs0 Hs1]
  · isplitr; · iexact HR
    isplitl [HO]; · iexact HO
    isplitl [Hb0]; · iexact Hb0
    isplitl [Hs0] <;> iassumption
  iintro HO
  iapply (barrier_spec m K c _ W)
  isplitl [HO HcB HatB]
  · isplitr; · iexact HR
    isplitr; · iexact Hlev
    isplitl [HO]; · iexact HO
    isplitl [HcB] <;> iassumption
  unfold barPay
  iintro ⟨HO, HatB, ⟨Hp0, Hp1⟩, ⟨Hp2, Hp3⟩, ⟨Hp4, Hp5⟩⟩
  iapply (ownStart_spec m c)
  isplitl [Hown]; · iexact Hown
  iintro Hof
  iapply (send_spec m K c _ (0, 0) [(0, 1), (1, 0), (1, 1), (2, 0), (2, 1)] (insert (SemLoc.reg barS, ()) W))
  isplitl [HO Hx0 Hp0 Ht0 Hu0]
  · isplitr; · iexact HR
    isplitl [HO]; · iexact HO
    isplitl [Hx0]; · iexact Hx0
    isplitl [Hp0]; · iexact Hp0
    isplitl [Ht0] <;> iassumption
  iintro ⟨Hc0, HO⟩
  iapply (send_spec m K c _ (0, 1) [(1, 0), (1, 1), (2, 0), (2, 1)] (insert (SemLoc.reg barS, ()) W))
  isplitl [HO Hx1 Hp1 Ht1 Hu1]
  · isplitr; · iexact HR
    isplitl [HO]; · iexact HO
    isplitl [Hx1]; · iexact Hx1
    isplitl [Hp1]; · iexact Hp1
    isplitl [Ht1] <;> iassumption
  iintro ⟨Hc1, HO⟩
  iapply (send_spec m K c _ (1, 0) [(1, 1), (2, 0), (2, 1)] (insert (SemLoc.reg barS, ()) W))
  isplitl [HO Hx2 Hp2 Ht2 Hu2]
  · isplitr; · iexact HR
    isplitl [HO]; · iexact HO
    isplitl [Hx2]; · iexact Hx2
    isplitl [Hp2]; · iexact Hp2
    isplitl [Ht2] <;> iassumption
  iintro ⟨Hc2, HO⟩
  iapply (send_spec m K c _ (1, 1) [(2, 0), (2, 1)] (insert (SemLoc.reg barS, ()) W))
  isplitl [HO Hx3 Hp3 Ht3 Hu3]
  · isplitr; · iexact HR
    isplitl [HO]; · iexact HO
    isplitl [Hx3]; · iexact Hx3
    isplitl [Hp3]; · iexact Hp3
    isplitl [Ht3] <;> iassumption
  iintro ⟨Hc3, HO⟩
  iapply (send_spec m K c _ (2, 0) [(2, 1)] (insert (SemLoc.reg barS, ()) W))
  isplitl [HO Hx4 Hp4 Ht4 Hu4]
  · isplitr; · iexact HR
    isplitl [HO]; · iexact HO
    isplitl [Hx4]; · iexact Hx4
    isplitl [Hp4]; · iexact Hp4
    isplitl [Ht4] <;> iassumption
  iintro ⟨Hc4, HO⟩
  iapply (send_spec m K c _ (2, 1) [] (insert (SemLoc.reg barS, ()) W))
  isplitl [HO Hx5 Hp5 Ht5 Hu5]
  · isplitr; · iexact HR
    isplitl [HO]; · iexact HO
    isplitl [Hx5]; · iexact Hx5
    isplitl [Hp5]; · iexact Hp5
    isplitl [Ht5] <;> iassumption
  iintro ⟨Hc5, HO⟩
  iapply (wStart_spec m c 0 Kt)
  isplitl [Hw]; · iexact Hw
  iintro Hwf
  iapply Hk
  isplitr [Hof Hwf]
  · isplitl [HO]; · iexists _; iexact HO
    isplitl [HatB]; · iexact HatB
    isplitl [Hc0]; · iexact Hc0
    isplitl [Hc1]; · iexact Hc1
    isplitl [Hc2]; · iexact Hc2
    isplitl [Hc3]; · iexact Hc3
    isplitl [Hc4]; · iexact Hc4
    iexact Hc5
  · isplitl [Hof] <;> iassumption

/-! ## The closing -/

/-- A copy sent, to be waited for, -/
def sentPend (c : Dev nD) (g : Slot) : sProp 𝕄 := iprop(atPos ER (sendCell c g) 0 ∅ 0 ∗ cred (tallyAt (sendCell c g) () N))
/-- and done. -/
def sentDone (c : Dev nD) (g : Slot) : sProp 𝕄 := iprop(xPts m c g ∗ semVal (sendCell c g) 0)

theorem closing_spec (Kt : PUnit → sProp 𝕄) :
    iprop((records m K ∗ (bigSep Finset.univ fun g : Slot => sentPend c g) ∗ free c)
        ∗ (((bigSep Finset.univ fun g : Slot => sentDone m c g) ∗ free c) -∗ Kt ⟨⟩))
      ⊢ wp frame (wpE (defs₀ (F := F)) 𝒱₀ c none) Set.univ (closing c) Kt := by
  unfold closing
  rw [bigSep_slot, bigSep_slot]
  unfold sentPend sentDone
  simp only [wp_bind]
  iintro ⟨⟨#HR, ⟨H0, H1, H2, H3, H4, H5⟩, Ho⟩, Hk⟩
  iapply (sendWait_spec m K c _ (0, 0))
  isplitl [H0 Ho]
  · isplitr; · iexact HR
    isplitl [H0] <;> iassumption
  iintro ⟨H0, Ho⟩
  iapply (sendWait_spec m K c _ (0, 1))
  isplitl [H1 Ho]
  · isplitr; · iexact HR
    isplitl [H1] <;> iassumption
  iintro ⟨H1, Ho⟩
  iapply (sendWait_spec m K c _ (1, 0))
  isplitl [H2 Ho]
  · isplitr; · iexact HR
    isplitl [H2] <;> iassumption
  iintro ⟨H2, Ho⟩
  iapply (sendWait_spec m K c _ (1, 1))
  isplitl [H3 Ho]
  · isplitr; · iexact HR
    isplitl [H3] <;> iassumption
  iintro ⟨H3, Ho⟩
  iapply (sendWait_spec m K c _ (2, 0))
  isplitl [H4 Ho]
  · isplitr; · iexact HR
    isplitl [H4] <;> iassumption
  iintro ⟨H4, Ho⟩
  iapply (sendWait_spec m K c Kt (2, 1))
  isplitl [H5 Ho]
  · isplitr; · iexact HR
    isplitl [H5] <;> iassumption
  iintro ⟨H5, Ho⟩
  iapply Hk
  isplitr [Ho]
  · isplitl [H0]; · iexact H0
    isplitl [H1]; · iexact H1
    isplitl [H2]; · iexact H2
    isplitl [H3]; · iexact H3
    isplitl [H4]; · iexact H4
    iexact H5
  iexact Ho

end Effects

/-! ## The pipeline's proof data -/

/-- The device's positions, its tokens and its local semaphores. -/
def linear (c : Dev nD) : sProp 𝕄 :=
  iprop((atPos ER (barCell c) 0 ∅ 0 ∗ (bigSep Finset.univ fun g : Slot => atPos ER (sendCell c g) 0 ∅ 0)
      ∗ bigSep Finset.univ fun g : Slot => atPos ER (recvCell c g) 0 ∅ 0)
    ∗ (barToks c ∗ bigSep Finset.univ fun g : Slot => xferToks c g)
    ∗ (semVal (ownCell c) 0 ∗ semVal (wCell c 0) 0 ∗ semVal (wCell c 1) 0))
/-- What a device starts from, besides its scratch buffers: the protocol's records, positions and tokens, the credits of
    its waits, and its two arguments. -/
def start (c : Dev nD) : sProp 𝕄 :=
  iprop((∃ K, records m K ∗ linear c) ∗ cred (tallyAt (barCell c) () 3) ∗ (bigSep Finset.univ fun g : Slot => cred (tallyAt (recvCell c g) () N))
    ∗ levAts L lv ∗ xWhole m c ∗ wPts m c)
/-- A scratch buffer, holding anything. -/
abbrev anyAt (c : Dev nD) (b : Ref sig .tc) : sProp 𝕄 :=
  iprop(∃ f : Buf (Elt F) ((c : Thread nD τ).loc b), ((c : Thread nD τ).loc b) ↦{fullShare} f)
/-- The three scratch buffers. -/
def scratch (c : Dev nD) : sProp 𝕄 := iprop(anyAt c cc0_scratch0 ∗ anyAt c cc0_scratch1 ∗ anyAt c cc0_scratch2)

def Φ₀ (c : Dev nD) : sProp 𝕄 := iprop(start m c ∗ scratch c)
/-- Afterwards: the scratch buffers, the two arguments as they were, and every semaphore at zero. -/
def Φ₁ (c : Dev nD) : sProp 𝕄 :=
  iprop(scratch c ∗ (xWhole m c ∗ wPts m c)
    ∗ (bigSep Finset.univ fun g : Slot => semVal (sendCell c g) 0) ∗ (bigSep Finset.univ fun g : Slot => semVal (recvCell c g) 0)
    ∗ (semVal (ownCell c) 0 ∗ semVal (wCell c 0) 0 ∗ semVal (wCell c 1) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0

/-! ## The body -/

theorem recv_start (c : Dev nD) : (bigSep Finset.univ fun g : Slot => recvSt m c 0 g)
    = iprop((bigSep Finset.univ fun g : Slot => atPos ER (recvCell c g) 0 ∅ 0) ∗ bigSep Finset.univ fun g : Slot => cred (tallyAt (recvCell c g) () N)) := by
  rw [← bigSep_sep']
  exact bigSep_congr fun g _ => by unfold recvSt; rw [if_pos (Nat.zero_le _)]; rfl
theorem recv_end (c : Dev nD) : (bigSep Finset.univ fun g : Slot => recvSt m c 56 g)
    = iprop((bigSep Finset.univ fun g : Slot => slotPts c g (landed m c g)) ∗ bigSep Finset.univ fun g : Slot => atPos ER (recvCell c g) 1 ∅ 0) := by
  rw [← bigSep_sep']
  exact bigSep_congr fun g _ => by
    have : passOf g ≤ 6 := by revert g; decide
    unfold recvSt; rw [if_neg (by omega)]; rfl
omit [FloatOps F] in
theorem sent_start (c : Dev nD) : (bigSep Finset.univ fun g : Slot => sentPend (F := F) c g)
    = iprop((bigSep Finset.univ fun g : Slot => atPos ER (sendCell c g) 0 ∅ 0) ∗ bigSep Finset.univ fun g : Slot => cred (tallyAt (sendCell c g) () N)) := by
  rw [← bigSep_sep']; rfl
omit [FloatOps F] in
theorem sent_end (c : Dev nD) : (bigSep Finset.univ fun g : Slot => sentDone m c g)
    = iprop((bigSep Finset.univ fun g : Slot => xPts m c g) ∗ bigSep Finset.univ fun g : Slot => semVal (sendCell c g) 0) := by
  rw [← bigSep_sep']; rfl

omit [FloatOps F] in
theorem slots_any (c : Dev nD) : (bigSep Finset.univ fun g : Slot => slotPts c g (landed m c g)) ⊢ (bigSep Finset.univ fun g : Slot => slotAny c g : sProp 𝕄) := by
  refine bigSep_mono fun g _ => ?_
  show slotPts c g (landed m c g) ⊢ iprop(∃ f, slotPts c g f)
  iintro H; iexists _; iexact H

set_option maxHeartbeats 1000000 in
/-- The body from what the device starts from to what it leaves. -/
theorem body_spec (c : Dev nD) (W : Waits sig Unit) (o : Out F) (Kt : PUnit → sProp 𝕄) :
    iprop((Φ₀ m c ∗ owes (c : Thread nD τ) (O₀ c) W ∗ outPts c o) ∗ ((Φ₁ m c ∗ free c ∗ outPts c (outAt m c)) -∗ Kt ⟨⟩))
      ⊢ wp frame (wpE (defs₀ (F := F)) 𝒱₀ c none) Set.univ (bodyOn c) Kt := by
  unfold Φ₀ start linear scratch bodyOn
  simp only [wp_bind]
  iintro ⟨⟨⟨⟨⟨%K, #HR, ⟨HatB, HatS, HatV⟩, ⟨HtB, HtX⟩, ⟨Hz, Hz0, Hz1⟩⟩, HcB, HcV, #Hlev, Hx, Hw⟩, ⟨Hown, ⟨%fr, Hrecv⟩, ⟨%fw, Hwb⟩⟩⟩, HO, Ho⟩, Hk⟩
  ihave Hsl := (recv_split c fr) $$ Hrecv
  ihave Hws := (wbuf_split c fw) $$ Hwb
  icases Hws with ⟨Hw0, Hw1⟩
  ihave Hxs := (x_eq m c).1 $$ Hx
  icases Hxs with ⟨Hxs, Hxo, Hxr⟩
  iapply (opening_spec m K c _ W)
  isplitl [HO HcB HatB HtB HtX Hsl Hxs Hxo Hown Hz Hw Hw0 Hz0]
  · isplitr; · iexact HR
    isplitr [Hxo Hown Hz Hw Hw0 Hz0]
    · isplitl [HO]; · iexact HO
      isplitr; · iexact Hlev
      isplitl [HcB]; · iexact HcB
      isplitl [HatB]; · iexact HatB
      isplitl [HtB]; · iexact HtB
      isplitl [HtX]; · iexact HtX
      isplitl [Hsl]; · iexact Hsl
      iexact Hxs
    · unfold localPre
      isplitl [Hxo Hown Hz]
      · isplitl [Hxo]; · iexact Hxo
        isplitl [Hown]; · iexact Hown
        iexact Hz
      · isplitl [Hw]; · iexact Hw
        isplitl [Hw0]; · iexact Hw0
        iexact Hz0
  unfold openPost localPost
  iintro ⟨⟨Hf, HatB, HcS⟩, ⟨Hof, Hwf⟩⟩
  iapply (steps_spec m K c o _ 56 0 rfl)
  isplitl [Hwf Hz1 Hw1 Hof HatV HcV Ho Hf]
  · isplitr; · iexact HR
    unfold stepSt passSt
    rw [recv_start, show fetch m c 0 = iprop(wFly m c 0 ∗ semVal (wCell c (par 1)) 0) from if_neg (by decide), show ownSt m c 0 = ownFly m c from if_pos rfl]
    isplitl [Hwf Hz1]
    · isplitl [Hwf]; · iexact Hwf
      iexact Hz1
    isplitl [Hw1]; · iexact Hw1
    isplitl [Hof HatV HcV]
    · isplitl [Hof]; · iexact Hof
      isplitl [HatV]; · iexact HatV
      iexact HcV
    isplitl [Ho]; · iexact Ho
    iexact Hf
  unfold stepSt passSt
  rw [recv_end, show fetch m c 56 = iprop(wPts m c ∗ semVal (wCell c (par 56)) 0 ∗ semVal (wCell c (par 57)) 0 ∗ wSlotAny c (par 56)) from if_pos rfl,
    show ownSt m c 56 = ownGot m c from if_neg (by decide), outSeq_end]
  unfold ownGot
  iintro ⟨⟨Hw, Hz0, Hz1, Hw0⟩, Hw1, ⟨⟨Hown, Hxo, Hz⟩, ⟨Hsl, HatV⟩⟩, Ho, Hf⟩
  imod (close_all m K c (fun g => .inr (.inr g))) $$ [HatV] with HzV
  · isplitr; · iexact HR
    iexact HatV
  imod (close_at m K (c, .inl ())) $$ [HatB] with HzB
  · isplitr; · iexact HR
    iexact HatB
  iapply (closing_spec m K c Kt)
  isplitl [HatS HcS Hf]
  · isplitr; · iexact HR
    isplitl [HatS HcS]
    · iapply (Entails.of_eq (sent_start (F := F) c).symm)
      isplitl [HatS]; · iexact HatS
      iexact HcS
    iexact Hf
  rw [sent_end]
  iintro ⟨⟨Hxs, HzS⟩, Hf⟩
  iapply Hk
  unfold Φ₁ scratch
  isplitr [Hf Ho]
  · isplitl [Hown Hsl Hw0 Hw1]
    · isplitl [Hown]; · iexists _; iexact Hown
      isplitl [Hsl]
      · iapply (recv_join m c)
        iapply (slots_any m c)
        iexact Hsl
      · iapply (wbuf_join m c)
        isplitl [Hw0]; · iexact Hw0
        iexact Hw1
    isplitl [Hxs Hxo Hxr Hw]
    · isplitl [Hxs Hxo Hxr]
      · iapply (x_eq m c).2
        isplitl [Hxs]; · iexact Hxs
        isplitl [Hxo]; · iexact Hxo
        iexact Hxr
      iexact Hw
    isplitl [HzS]; · iexact HzS
    isplitl [HzV]; · iexact HzV
    isplitl [Hz Hz0 Hz1]
    · isplitl [Hz]; · iexact Hz
      isplitl [Hz0]; · iexact Hz0
      iexact Hz1
    iexact HzB
  isplitl [Hf]; · iexact Hf
  iexact Ho

/-! ## The library's body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (X : Out F) : sProp 𝕄 :=
  iprop(∃ f : Buf (Elt F) (((c : Dev nD) : Thread nD τ).loc cc0_stg0_0), ⌜f = X⌝ ∗ (((c : Thread nD τ).loc cc0_stg0_0) ↦{fullShare} f))

theorem row_eq (t : Fin cfg0.N) : (defs₀ (F := F) : Defs nD τ sig (Elt F) Λ₀) Proc.tc (0 : Fin 1) (t, cfg0.slots t) = bodyAt0 (F := F) t := rfl

theorem owed_before (c : Dev nD) : (dats m ρ 0 c).owed t₀.castSucc = O₀ c := rfl
theorem owed_after (c : Dev nD) : (dats m ρ 0 c).owed t₀.succ = 0 := rfl
theorem state_before (c : Dev nD) : (dats m ρ 0 c).Φ t₀.castSucc = Φ₀ m c := rfl
theorem state_after (c : Dev nD) : (dats m ρ 0 c).Φ t₀.succ = Φ₁ m c := rfl
theorem result_after (c : Dev nD) : (dats m ρ 0 c).after 0 t₀ = outAt m c := rfl

theorem body_obligation (c : Dev nD) : BodyObligation (dats (F := F) m ρ 0 c) (defs₀ (F := F)) 𝒱₀ () Set.univ := fun t => by
  rw [fin_N0 t, bigSep_W0, bigSep_W0]
  simp only [owns_whole_eq]
  rw [row_eq, body_eq, wp_deviceId]
  unfold Dat.owesAt Pipeline.owesWithin
  rw [owed_before, owed_after, state_before, state_after, result_after]
  iintro ⟨HΦ, ⟨%W, %hW, HO⟩, ⟨%d, %g, %hg, Hout⟩⟩
  iapply (body_spec m c W g)
  isplitl [HΦ HO Hout]
  · isplitl [HΦ]; · iexact HΦ
    isplitl [HO]; · iexact HO
    iexact Hout
  iintro ⟨HΦ, ⟨%W', HO⟩, Hout⟩
  isplitl [HΦ]; · iexact HΦ
  isplitl [HO]
  · iexists W'
    isplitr; · ipureintro; exact fun _ _ => Or.inl trivial
    iexact HO
  iexists _; isplitr; · (ipureintro; rfl)
  iexact Hout

end Cert.Mesh

end
-- ==== Proof.Launch.lean ====
/-
# The launch

What every device starts from is dealt out of the launch's ghost element: the protocol's cells and tokens are minted,
the cells' invariants are allocated from the semaphores at zero, the tokens go to the devices that pay with them, and the
credit every device is owed is what the others owe it. Then the mesh's run: it ends, the arguments are as they were, each
device's result is `outAt`, and every semaphore is at zero.
-/
module

public import proofs.«01_k».proof.Proof.Body
public import Idealize.ShloMosaic.Lib.Pipeline.CollectiveSegs

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The kernel's own semaphores: the six of the copies sent, the six of the copies received, the two of the fetches and
    the one of the device's own rows. -/
abbrev osem : Fin 15 → SemLoc sig
  | 0 => .dma (sendSem (0, 0)) | 1 => .dma (sendSem (0, 1)) | 2 => .dma (sendSem (1, 0)) | 3 => .dma (sendSem (1, 1))
  | 4 => .dma (sendSem (2, 0)) | 5 => .dma (sendSem (2, 1))
  | 6 => .dma (recvSem (0, 0)) | 7 => .dma (recvSem (0, 1)) | 8 => .dma (recvSem (1, 0)) | 9 => .dma (recvSem (1, 1))
  | 10 => .dma (recvSem (2, 0)) | 11 => .dma (recvSem (2, 1))
  | 12 => .dma ownSem | 13 => .dma (wSem 0) | 14 => .dma (wSem 1)

theorem ownSemFacts : Pipeline.OwnSemFacts cfg0.spec osem := by decide

theorem share_eq (c : Dev nD) (w : Fin cfg0.W) : (dats m ρ 0 c).share w = fullShare := by unfold Dat.share; split <;> rfl

/-- The three semaphores of the local copies. -/
def locals (c : Dev nD) : sProp 𝕄 := iprop(semVal (ownCell c) 0 ∗ semVal (wCell c 0) 0 ∗ semVal (wCell c 1) 0)

omit [FloatOps F] in
theorem ownSems0_eq (c : Dev nD) : (Pipeline.ownSems0 (Ix := Unit) (Name := ℕ) (U := UU) (Lvl := ℕ) (Val := Elt F) (τ := τ) osem c : sProp 𝕄)
    ⊣⊢ iprop((bigSep Finset.univ fun g : Slot => semVal (sendCell c g) 0) ∗ (bigSep Finset.univ fun g : Slot => semVal (recvCell c g) 0) ∗ locals c) := by
  have h : (Pipeline.ownSems0 (Ix := Unit) (Name := ℕ) (U := UU) (Lvl := ℕ) (Val := Elt F) (τ := τ) osem c : sProp 𝕄)
      = iprop(semVal (sendCell c (0, 0)) 0 ∗ semVal (sendCell c (0, 1)) 0 ∗ semVal (sendCell c (1, 0)) 0 ∗ semVal (sendCell c (1, 1)) 0
        ∗ semVal (sendCell c (2, 0)) 0 ∗ semVal (sendCell c (2, 1)) 0
        ∗ semVal (recvCell c (0, 0)) 0 ∗ semVal (recvCell c (0, 1)) 0 ∗ semVal (recvCell c (1, 0)) 0 ∗ semVal (recvCell c (1, 1)) 0
        ∗ semVal (recvCell c (2, 0)) 0 ∗ semVal (recvCell c (2, 1)) 0
        ∗ semVal (ownCell c) 0 ∗ semVal (wCell c 0) 0 ∗ semVal (wCell c 1) 0) := by
    rw [Pipeline.ownSems0_eq_of_list c osem [0, 1, 2, 3, 4, 5, 6, 7, 8, 9, 10, 11, 12, 13, 14] (by decide) (by decide)]; rfl
  rw [h, bigSep_slot, bigSep_slot]
  unfold locals
  constructor
  · iintro ⟨H0, H1, H2, H3, H4, H5, V0, V1, V2, V3, V4, V5, Hl⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [V0 V1 V2 V3 V4 V5]
    · isplitl [V0]; · iexact V0
      isplitl [V1]; · iexact V1
      isplitl [V2]; · iexact V2
      isplitl [V3]; · iexact V3
      isplitl [V4]; · iexact V4
      iexact V5
    iexact Hl
  · iintro ⟨⟨H0, H1, H2, H3, H4, H5⟩, ⟨V0, V1, V2, V3, V4, V5⟩, Hl⟩
    isplitl [H0]; · iexact H0
    isplitl [H1]; · iexact H1
    isplitl [H2]; · iexact H2
    isplitl [H3]; · iexact H3
    isplitl [H4]; · iexact H4
    isplitl [H5]; · iexact H5
    isplitl [V0]; · iexact V0
    isplitl [V1]; · iexact V1
    isplitl [V2]; · iexact V2
    isplitl [V3]; · iexact V3
    isplitl [V4]; · iexact V4
    isplitl [V5]; · iexact V5
    iexact Hl

omit [FloatOps F] in
/-- The barrier semaphore is the one the launch leaves to the runtime. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and the tokens minted -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
def meshCells : Finset (GSem nD τ sig) := Finset.univ.map ⟨kcell, kcell_injective⟩

/-- A device's duties: three of its barrier cell, one of each transfer's. -/
abbrev TK : Type := Fin 3 ⊕ (Slot ⊕ Slot)
abbrev tsem : TK → SemLoc sig × Fin 3
  | .inl r => (.reg barS, r) | .inr (.inl g) => (.dma (sendSem g), 0) | .inr (.inr g) => (.dma (recvSem g), 0)
theorem tsem_injective : Function.Injective tsem := by
  have h : ∀ a b : TK, tsem a = tsem b → a = b := by decide
  exact fun a b => h a b
abbrev tokOf (ct : Dev nD × TK) : GSem nD τ sig × ℕ × Fin 3 := (((ct.1 : Thread nD τ), (tsem ct.2).1), 0, (tsem ct.2).2)
theorem tokOf_injective : Function.Injective (tokOf : Dev nD × TK → GSem nD τ sig × ℕ × Fin 3) := by
  rintro ⟨c, t⟩ ⟨c', t'⟩ h
  have h1 : c = c' := by have := congrArg (fun x : GSem nD τ sig × ℕ × Fin 3 => x.1.1.1) h; exact this
  subst h1
  have h2 : t = t' := tsem_injective (by have := congrArg (fun x : GSem nD τ sig × ℕ × Fin 3 => (x.1.2, x.2.2)) h; exact this)
  subst h2; rfl
def meshToks : Finset (GSem nD τ sig × ℕ × Fin 3) := Finset.univ.map ⟨tokOf, tokOf_injective⟩

def u₀ : UU :=
  (initOf (Pipeline.cells cfgs cellOf_inj) (Pipeline.launchToks cfgs cellOf_inj), (initOf meshCells meshToks, (1 : Counters)))

omit [FloatOps F] in
theorem ownU_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's own cells. -/
def toks (c : Dev nD) : sProp 𝕄 :=
  iprop((bigSep Finset.univ fun r : Fin 3 => dutyTok ER (barCell c) 0 r)
    ∗ (bigSep Finset.univ fun g : Slot => dutyTok ER (sendCell c g) 0 0) ∗ bigSep Finset.univ fun g : Slot => dutyTok ER (recvCell c g) 0 0)

/-- What the launch's element deals device `c`, -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
/-- and what it becomes. -/
def G' (c : Dev nD) : sProp 𝕄 := iprop(∃ K, records m K ∗ linear c)

omit [FloatOps F] in
theorem bigSep_CK (Φ : CK → sProp 𝕄) : bigSep Finset.univ Φ
    = iprop(Φ (.inl ()) ∗ (bigSep Finset.univ fun g : Slot => Φ (.inr (.inl g))) ∗ bigSep Finset.univ fun g : Slot => Φ (.inr (.inr g))) := by
  rw [bigSep_univ_sum, bigSep_univ_sum, bigSep_univ_eq_bigSepL [()] (by decide) (by decide)]; rfl
omit [FloatOps F] in
theorem bigSep_TK (Φ : TK → sProp 𝕄) : bigSep Finset.univ Φ
    = iprop((bigSep Finset.univ fun r : Fin 3 => Φ (.inl r)) ∗ (bigSep Finset.univ fun g : Slot => Φ (.inr (.inl g)))
        ∗ bigSep Finset.univ fun g : Slot => Φ (.inr (.inr g))) := by
  rw [bigSep_univ_sum, bigSep_univ_sum]; rfl

omit [FloatOps F] in
theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_TK]; rfl
  iintro HX
  imod (Rounds.fund ER (Rd m) meshCells meshToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ locals c) : sProp 𝕄) := by
  rw [unscopedSems0_eq, bigSep_CK]
  iintro ⟨Ho, HB⟩
  ihave Ho' := (ownSems0_eq (F := F) c).1 $$ Ho
  icases Ho' with ⟨HS, HV, Hl⟩
  isplitr [Hl]
  · isplitl [HB]; · iexact HB
    isplitl [HS] <;> iassumption
  iexact Hl

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## The tokens to the devices that pay with them -/

/-- The slots of the mesh, each turned to the device that writes it; -/
def slotTurn : (Dev nD × Slot) ≃ (Dev nD × Slot) :=
  ⟨fun x => (up x.1 x.2.1, x.2), fun x => (dn x.1 x.2.1, x.2), fun x => Prod.ext (dn_up x.1 x.2.1) rfl, fun x => Prod.ext (up_dn x.1 x.2.1) rfl⟩
/-- the duties of the barriers, each turned to the device that signals. -/
def barTurn : (Dev nD × Fin 3) ≃ (Dev nD × Fin 3) :=
  ⟨fun x => (dn x.1 x.2, x.2), fun x => (up x.1 x.2, x.2), fun x => Prod.ext (up_dn x.1 x.2) rfl, fun x => Prod.ext (dn_up x.1 x.2) rfl⟩

omit [FloatOps F] in
theorem bar_around : (bigSep Finset.univ fun c : Dev nD => bigSep Finset.univ fun r : Fin 3 => (dutyTok ER (barCell c) 0 r : sProp 𝕄))
    = bigSep Finset.univ fun c : Dev nD => barToks c := by
  unfold barToks
  rw [← bigSep_univ_prod (fun x : Dev nD × Fin 3 => (dutyTok ER (barCell x.1) 0 x.2 : sProp 𝕄)),
    bigSep_univ_equiv barTurn (fun x : Dev nD × Fin 3 => (dutyTok ER (barCell x.1) 0 x.2 : sProp 𝕄)), bigSep_univ_prod]
  rfl
omit [FloatOps F] in
theorem recv_around : (bigSep Finset.univ fun c : Dev nD => bigSep Finset.univ fun g : Slot => (dutyTok ER (recvCell c g) 0 0 : sProp 𝕄))
    = bigSep Finset.univ fun c : Dev nD => bigSep Finset.univ fun g : Slot => dutyTok ER (recvCell (up c g.1) g) 0 0 := by
  rw [← bigSep_univ_prod (fun x : Dev nD × Slot => (dutyTok ER (recvCell x.1 x.2) 0 0 : sProp 𝕄)),
    bigSep_univ_equiv slotTurn (fun x : Dev nD × Slot => (dutyTok ER (recvCell x.1 x.2) 0 0 : sProp 𝕄)), bigSep_univ_prod]
  rfl

omit [FloatOps F] in
theorem toks_around : (bigSep Finset.univ fun c : Dev nD => (toks c : sProp 𝕄))
    ⊢ bigSep Finset.univ fun c : Dev nD => iprop(barToks c ∗ bigSep Finset.univ fun g : Slot => xferToks c g) := by
  have hx : (fun c : Dev nD => (iprop(barToks c ∗ bigSep Finset.univ fun g : Slot => xferToks c g) : sProp 𝕄))
      = fun c => iprop(barToks c ∗ (bigSep Finset.univ fun g : Slot => dutyTok ER (sendCell c g) 0 0)
          ∗ bigSep Finset.univ fun g : Slot => dutyTok ER (recvCell (up c g.1) g) 0 0) :=
    funext fun c => by unfold xferToks; rw [bigSep_sep']
  rw [hx]
  unfold toks
  rw [bigSep_sep', bigSep_sep', bigSep_sep', bigSep_sep', bar_around, recv_around]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem start_of (K : Dev nD × CK → ℕ) (c : Dev nD) : iprop(records m K ∗ linear c) ⊢ G' m c := by
  unfold G'; iintro H; iexists K; iexact H

omit [FloatOps F] in
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  have hl : (bigSep Finset.univ fun c : Dev nD => (linear c : sProp 𝕄))
      = iprop((bigSep Finset.univ fun c : Dev nD => bigSep Finset.univ fun k : CK => atPos ER (kcell (c, k)) 0 ∅ 0)
        ∗ (bigSep Finset.univ fun c : Dev nD => iprop(barToks c ∗ bigSep Finset.univ fun g : Slot => xferToks c g))
        ∗ bigSep Finset.univ fun c : Dev nD => locals c) := by
    rw [← bigSep_sep', ← bigSep_sep']
    exact bigSep_congr fun c _ => by unfold linear locals; rw [bigSep_CK]
  iintro ⟨HI, ⟨Hat, #HR⟩, Htok, Hl⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => start_of m K c)
  isplitr
  · unfold records; isplitl; · iexact HI
    iexact HR
  · iapply (Entails.of_eq hl.symm)
    isplitl [Hat]; · iexact Hat
    isplitl [Htk]; · iexact Htk
    iexact Hl

omit [FloatOps F] in
/-- The launch's global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem bar_inj {a b : Dev nD} (h : barCell a = barCell b) : a = b := congrArg (fun g : GSem nD τ sig => g.1.1) h
theorem recv_inj {a b : Dev nD} {s g : Slot} (h : recvCell a s = recvCell b g) : a = b ∧ s = g :=
  ⟨congrArg (fun g : GSem nD τ sig => g.1.1) h,
    Option.some.inj ((recvOf_recv s).symm.trans ((congrArg recvOf (congrArg Prod.snd h)).trans (recvOf_recv g)))⟩

theorem oweS_bar (d c : Dev nD) : ∀ l, oweS d l (barCell c) () = 0
  | [] => rfl
  | g :: l => by
    rw [oweS, Pi.add_apply, Finsupp.add_apply, oweS_bar d c l, tallyAt_ne_cell (fun h => recv_ne_bar g (congrArg Prod.snd h).symm)]
    rfl
/-- What device `d` owes `c`'s barrier cell. -/
theorem oweB_bar (d c : Dev nD) : ∀ l, oweB d l (barCell c) () = l.countP (fun r => dn d r = c)
  | [] => oweS_bar d c slots
  | r :: l => by
    rw [oweB, Pi.add_apply, Finsupp.add_apply, oweB_bar d c l, tallyAt_apply, List.countP_cons]
    refine congrArg (HAdd.hAdd (_ : ℕ)) ?_
    by_cases h : dn d r = c
    · rw [h, if_pos ⟨rfl, rfl⟩, if_pos (decide_eq_true rfl)]
    · rw [if_neg fun h' => h (bar_inj h'.1).symm, if_neg (fun h' => h (of_decide_eq_true h'))]
/-- What device `d` owes the cell of `c`'s slot `g`. -/
theorem oweS_recv (d c : Dev nD) (g : Slot) : ∀ l, oweS d l (recvCell c g) () = l.countP (fun s => up d s.1 = c ∧ s = g) * N
  | [] => (Nat.zero_mul _).symm
  | s :: l => by
    rw [oweS, Pi.add_apply, Finsupp.add_apply, oweS_recv d c g l, tallyAt_apply, List.countP_cons, Nat.add_mul]
    refine congrArg (HAdd.hAdd (_ : ℕ)) ?_
    by_cases h : up d s.1 = c ∧ s = g
    · rw [h.1, h.2, if_pos ⟨rfl, rfl⟩, if_pos (decide_eq_true ⟨rfl, rfl⟩), Nat.one_mul]
    · rw [if_neg fun h' => h ⟨(recv_inj h'.1).1.symm, (recv_inj h'.1).2.symm⟩, if_neg (fun h' => h (of_decide_eq_true h')), Nat.zero_mul]
theorem oweB_recv (d c : Dev nD) (g : Slot) : ∀ l, oweB d l (recvCell c g) () = oweS d slots (recvCell c g) ()
  | [] => rfl
  | r :: l => by
    rw [oweB, Pi.add_apply, Finsupp.add_apply, oweB_recv d c g l, tallyAt_ne_cell (fun h => recv_ne_bar g (congrArg Prod.snd h))]
    rfl

theorem owed_bar (c : Dev nD) : ∑ d : Dev nD, O₀ d (barCell c) () = 3 := by
  rw [show ∑ d : Dev nD, O₀ d (barCell c) () = ∑ d : Dev nD, [2, 1, 0].countP (fun r => dn d r = c) from
    Finset.sum_congr rfl fun d _ => oweB_bar d c [2, 1, 0]]
  revert c; decide
theorem owed_recv (c : Dev nD) (g : Slot) : ∑ d : Dev nD, O₀ d (recvCell c g) () = N := by
  rw [show ∑ d : Dev nD, O₀ d (recvCell c g) () = ∑ d : Dev nD, slots.countP (fun s => up d s.1 = c ∧ s = g) * N from
      Finset.sum_congr rfl fun d _ => (oweB_recv d c g [2, 1, 0]).trans (oweS_recv d c g slots), ← Finset.sum_mul,
    show ∑ d : Dev nD, slots.countP (fun s => up d s.1 = c ∧ s = g) = 1 by revert c g; decide, Nat.one_mul]

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, owed_bar]
omit [FloatOps F] in
theorem launch_recv (c : Dev nD) (g : Slot) :
    tallyOn (recvCell c g) (launchCredit (Pipeline.owing O₀) 0 (recvCell c g)) = (tallyAt (recvCell c g) () N : CellTallies nD τ sig Unit) := by
  unfold tallyAt; refine congrArg _ (Finsupp.ext fun u => ?_); cases u
  rw [Pipeline.launchCredit_owing, Finsupp.single_eq_same, owed_recv]

def recvLoc : Slot ↪ SemLoc sig := ⟨fun g => .dma (recvSem g), fun a b h => Option.some.inj ((recvOf_recv a).symm.trans ((congrArg recvOf h).trans (recvOf_recv b)))⟩

omit [FloatOps F] in
theorem creds (c : Dev nD) :
    (Pipeline.launchCred O₀ c : sProp 𝕄) ⊢ iprop(cred (tallyAt (barCell c) () 3) ∗ bigSep Finset.univ fun g : Slot => cred (tallyAt (recvCell c g) () N)) := by
  have hr : (bigSep Finset.univ fun g : Slot => (cred (tallyAt (recvCell c g) () N) : sProp 𝕄))
      = bigSep (Finset.univ.map recvLoc) fun sm => cred (tallyOn ((c : Thread nD τ), sm) (launchCredit (Pipeline.owing O₀) 0 ((c : Thread nD τ), sm))) := by
    rw [bigSep_map]
    exact bigSep_congr fun g _ => congrArg _ (launch_recv c g).symm
  unfold Pipeline.launchCred
  rw [bigSep_univ_at _ (SemLoc.reg barS), launch_bar, hr]
  refine sep_mono_right (BI.bigSep_subset fun sm hsm => ?_)
  obtain ⟨g, -, rfl⟩ := Finset.mem_map.mp hsm
  exact Finset.mem_erase.mpr ⟨recv_ne_bar g, Finset.mem_univ _⟩

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw⟩, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    isplitl [Hx]; · iexact Hx
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What is left with the device besides its own semaphores and scratch buffers: the barrier's semaphore and the two arguments. -/
def left (c : Dev nD) : sProp 𝕄 := iprop(unscopedSems0 c ∗ xWhole m c ∗ wPts m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left scratch
  rw [unscopedSems0_eq]
  iintro ⟨Hr, Ha, HzS, HzV, Hl, HzB⟩
  isplitl [HzB Ha]
  · isplitl [HzB]; · iexact HzB
    iexact Ha
  isplitl [HzS HzV Hl]
  · iapply (ownSems0_eq (F := F) c).2
    isplitl [HzS]; · iexact HzS
    isplitl [HzV]; · iexact HzV
    unfold locals; iexact Hl
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the launch reads off the final memory, on one device. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem left_read (c : Dev nD) (s' : Phys nD τ sig (Elt F)) :
    iprop(left m c ∗ emp ∗ SI s') ⊢ (|={Set.univ}=> iprop(⌜Left m c s'.mem⌝ ∗ SI s') : sProp 𝕄) := by
  unfold left
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hx, Buf.eq_of_forall_mem_univ hw⟩
  iexact HSI

/-- What the run leaves on every device: the result array written back from `outAt`, and the arguments unchanged. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N) ∧ Left m c r.2

set_option maxRecDepth 8000 in
/-- From any memory and zero semaphores every fair execution of the four devices ends, each with its result computed,
    its arguments unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := Left m)
    (hY := left_read m)
    (hQ := fun _ h hs => ⟨fun c => ⟨(h c).1, (h c).2.2⟩, sem_eq_zero hs fun c => (h c).2.2.1⟩)

end Cert.Mesh

end
-- ==== Proof.Value.lean ====
/-
# The result as sums of products

Over the extended reals a pass adds to an element of the result the products of one device's rows with that device's
rows of `w`; over the passes the element ends as the activation of the sum over the four devices.
-/
module

public import proofs.«01_k».proof.Proof.Outcome
public import Idealize.ShloMosaic.Lib.MatmulPlain
public import Idealize.ShloMosaic.Lib.ValueLayout
public import Idealize.ShloMosaic.Lib.Pipeline.Value
public import Idealize.ShloMosaic.Lib.Pointwise.Sums
public import Idealize.ShloMosaic.PureOps.Ideal.Laws

@[expose] public section

noncomputable section

namespace Cert.Mesh

open Cert.KernelIdeal Cert.KernelIdeal.Gen
open Idealize.ShloMosaic Idealize.ShloMosaic.TcCoe
open scoped BigOperators

/-! ## Where the blocks start -/

/-- The device whose rows of `w` pass `j` of device `c` multiplies. -/
def srcDev (c : Dev nD) : ℕ → Dev nD
  | 0 => c
  | j + 1 => dn c (dIx (j + 1))

theorem own_at (c : Dev nD) : k0_off1 c = ![c.val * 2048, 0] := by
  revert c; decide +kernel
theorem sent_at (c : Dev nD) (g : Slot) : xOff (dn c g.1) g = ![c.val * 2048 + 1024 * g.2.val, 0] := by
  revert c g; decide +kernel
theorem wOwn_at (c : Dev nD) (t : Fin 8) : wOffOwn c t.val = ![c.val * 2048, 512 * t.val] := by
  revert c t; decide +kernel
theorem wPeer_at (c : Dev nD) (r : Fin 3) (t : Fin 8) : wOffPeer c r t.val = ![(dn c r).val * 2048, 512 * t.val] := by
  revert c r t; decide +kernel
theorem w_at (c : Dev nD) (n : ℕ) : wOff c n = ![(srcDev c (n / 8)).val * 2048, 512 * (n % 8)] := by
  show wOffPass c (n % 8) (n / 8) = _
  generalize n / 8 = j
  cases j with
  | zero => exact wOwn_at c (col n)
  | succ j => exact wPeer_at c (dIx (j + 1)) (col n)

/-! ## What the products read -/

section Reads
variable {F : FTy → Type} [FloatOps F] (m : (ℓ : Loc nD τ sig) → Buf (Elt F) ℓ)

/-- Device `e`'s row `2048 c + r` of its columns of `x`, at column `k`. -/
def xAt (e c : Dev nD) (r k : Fin 2048) : Elt F .bf16 :=
  xC m e (ValueIdx.ix2 (⟨c.val * 2048 + r.val, by have : c.val < 4 := c.isLt; omega⟩ : Fin 8192) k)
/-- Device `c`'s copy of `w` at row `2048 e + k`, column `l`. -/
def wAt (c e : Dev nD) (k : Fin 2048) (l : Fin 4096) : Elt F .f32 :=
  wC m c (ValueIdx.ix2 (⟨e.val * 2048 + k.val, by have : e.val < 4 := e.isLt; omega⟩ : Fin 8192) l)

/-- The device's own rows. -/
theorem ownVal_at (c : Dev nD) (r k : Fin 2048) : ownVal m c (ValueIdx.ix2 r k) = xAt m c c r k := by
  have h : (Rect.unit (s := S8192x2048) (k0_off1 c) S2048x2048.size (k0_off1_inb c)).emb (ValueIdx.ix2 r k)
      = ValueIdx.ix2 (⟨c.val * 2048 + r.val, by have : c.val < 4 := c.isLt; omega⟩ : Fin 8192) k := by
    funext a
    refine Fin.ext ?_
    match a with
    | ⟨0, _⟩ =>
      show k0_off1 c 0 + 1 * r.val = c.val * 2048 + r.val
      rw [own_at]; show c.val * 2048 + 1 * r.val = _; rw [Nat.one_mul]
    | ⟨1, _⟩ =>
      show k0_off1 c 1 + 1 * k.val = k.val
      rw [own_at]; show 0 + 1 * k.val = _; omega
  show xC m c ((Rect.unit (s := S8192x2048) (k0_off1 c) S2048x2048.size (k0_off1_inb c)).emb (ValueIdx.ix2 r k)) = _
  rw [h]; rfl

/-- The landed rows of slot `g`. -/
theorem rVal_at (c : Dev nD) (g : Slot) (r : Fin 1024) (k : Fin 2048) :
    shapeCast S1024x2048 (rVal m c g) shapeCasts_S1x1024x2048_S1024x2048 (ValueIdx.ix2 r k)
      = xAt m (dn c g.1) c ⟨1024 * g.2.val + r.val, by have := g.2.isLt; omega⟩ k := by
  have hr : shapeCast S1024x2048 (rVal m c g) shapeCasts_S1x1024x2048_S1024x2048
      = (xSrc (dn c g.1) g).view.read (Elt F) (xC m (dn c g.1)) :=
    (View.read_write_univ (v := (rSlot g).view) (m ((c : Thread nD τ).loc cc0_scratch1)) ((xSrc (dn c g.1) g).view.read (Elt F) (xC m (dn c g.1))))
  have h : (Rect.unit (s := S8192x2048) (xOff (dn c g.1) g) S1024x2048.size (k0_off2_inb (dn c g.1) g.1 g.2)).emb (ValueIdx.ix2 r k)
      = ValueIdx.ix2 (⟨c.val * 2048 + (1024 * g.2.val + r.val), by have : c.val < 4 := c.isLt; have := g.2.isLt; omega⟩ : Fin 8192) k := by
    funext a
    refine Fin.ext ?_
    match a with
    | ⟨0, _⟩ =>
      show xOff (dn c g.1) g 0 + 1 * r.val = c.val * 2048 + (1024 * g.2.val + r.val)
      rw [sent_at]; show c.val * 2048 + 1024 * g.2.val + 1 * r.val = _; omega
    | ⟨1, _⟩ =>
      show xOff (dn c g.1) g 1 + 1 * k.val = k.val
      rw [sent_at]; show 0 + 1 * k.val = _; omega
  rw [hr]
  show xC m (dn c g.1) ((Rect.unit (s := S8192x2048) (xOff (dn c g.1) g) S1024x2048.size (k0_off2_inb (dn c g.1) g.1 g.2)).emb (ValueIdx.ix2 r k)) = _
  rw [h]; rfl

/-- The block of `w` of step `n`. -/
theorem wVal_at (c : Dev nD) (n : ℕ) (k : Fin 2048) (q : Fin 512) :
    shapeCast S2048x512 (wVal m c n) shapeCasts_S1x2048x512_S2048x512 (ValueIdx.ix2 k q)
      = wAt m c (srcDev c (n / 8)) k ⟨512 * (n % 8) + q.val, by omega⟩ := by
  have hr : shapeCast S2048x512 (wVal m c n) shapeCasts_S1x2048x512_S2048x512 = (wSrc c n).view.read (Elt F) (wC m c) :=
    (View.read_write_univ (v := (wSlot (par n)).view) (m ((c : Thread nD τ).loc cc0_scratch2)) ((wSrc c n).view.read (Elt F) (wC m c)))
  have h : (Rect.unit (s := S8192x4096) (wOff c n) S2048x512.size (wOff_inb c n)).emb (ValueIdx.ix2 k q)
      = ValueIdx.ix2 (⟨(srcDev c (n / 8)).val * 2048 + k.val, by have : (srcDev c (n / 8)).val < 4 := (srcDev c (n / 8)).isLt; omega⟩ : Fin 8192)
          (⟨512 * (n % 8) + q.val, by omega⟩ : Fin 4096) := by
    funext a
    refine Fin.ext ?_
    match a with
    | ⟨0, _⟩ =>
      show wOff c n 0 + 1 * k.val = (srcDev c (n / 8)).val * 2048 + k.val
      rw [w_at]; show (srcDev c (n / 8)).val * 2048 + 1 * k.val = _; rw [Nat.one_mul]
    | ⟨1, _⟩ =>
      show wOff c n 1 + 1 * q.val = 512 * (n % 8) + q.val
      rw [w_at]; show 512 * (n % 8) + 1 * q.val = _; rw [Nat.one_mul]
  rw [hr]
  show wC m c ((Rect.unit (s := S8192x4096) (wOff c n) S2048x512.size (wOff_inb c n)).emb (ValueIdx.ix2 k q)) = _
  rw [h]; rfl

end Reads

/-! ## One pass -/

variable (m : (ℓ : Loc nD τ sig) → Buf (Elt Ideal) ℓ)

/-- An element's row and column. -/
abbrev rowOf (i : S2048x4096.Idx) : Fin 2048 := i 0
abbrev colOf (i : S2048x4096.Idx) : Fin 4096 := i 1

/-- What device `e`'s columns of `x` and rows of `w` contribute to element `i` of device `c`'s result. -/
def part (c e : Dev nD) (i : S2048x4096.Idx) : EReal := ∑ k : Fin 2048, (xAt m e c (rowOf i) k : EReal) * wAt m c e k (colOf i)

/-- The first pass stores the device's own part; -/
theorem payOwn_at (c : Dev nD) (n : ℕ) (hn : n < 8) (i : S2048x4096.Idx) (hi : (i 1).val / 512 = n) :
    (payOwn (wVal m c n) (ownVal m c) (fullIx i) : EReal) = part m c c i := by
  have hf : fullIx i = ValueIdx.ix2 (rowOf i) (⟨(i 1).val % 512, Nat.mod_lt _ (by decide)⟩ : Fin 512) := by
    funext a; match a with | ⟨0, _⟩ => rfl | ⟨1, _⟩ => rfl
  rw [hf]
  show FloatOps.matmul (DotDims.plain 2048 2048 512) none (ownVal m c) _ (constant S2048x512 .f32 0x00000000#32) (ValueIdx.ix2 (rowOf i) _) = _
  rw [Ideal.matmul_plain_apply]
  show Ideal.ofBits .f32 0x00000000#32 + _ = _
  rw [Ideal.ofBits_zero_f32, zero_add]
  refine Finset.sum_congr rfl fun k _ => ?_
  show (ownVal m c (ValueIdx.ix2 (rowOf i) k) : EReal) * (shapeCast S2048x512 (wVal m c n) shapeCasts_S1x2048x512_S2048x512 (ValueIdx.ix2 k _) : EReal) = _
  rw [ownVal_at, wVal_at]
  refine congrArg _ ?_
  rw [show srcDev c (n / 8) = c by rw [show n / 8 = 0 by omega]; rfl]
  refine congrArg (wAt m c c k) (Fin.ext ?_)
  show 512 * (n % 8) + (i 1).val % 512 = (i 1).val
  omega

/-- a later pass adds the part of the device whose rows have landed. -/
theorem sumAcc_at (c : Dev nD) (n : ℕ) (hn : 8 ≤ n) (o : Vec Ideal S1024x512 .bf16) (i : S2048x4096.Idx)
    (h0 : (i 0).val / 1024 = (hIx (n / 8)).val) (h1 : (i 1).val / 512 = n % 8) :
    (sumAcc (wVal m c n) (rVal m c (gIx (n / 8))) o (halfIx i) : EReal) = o (halfIx i) + part m c (srcDev c (n / 8)) i := by
  have hs : srcDev c (n / 8) = dn c (dIx (n / 8)) := by
    obtain ⟨j, hj⟩ : ∃ j, n / 8 = j + 1 := ⟨n / 8 - 1, by omega⟩
    rw [hj]; rfl
  have hf : halfIx i = ValueIdx.ix2 (⟨(i 0).val % 1024, Nat.mod_lt _ (by decide)⟩ : Fin 1024) (⟨(i 1).val % 512, Nat.mod_lt _ (by decide)⟩ : Fin 512) := by
    funext a; match a with | ⟨0, _⟩ => rfl | ⟨1, _⟩ => rfl
  have ho : shapeCast S1024x512 o shapeCasts_S1024x512_S1024x512 (halfIx i) = o (halfIx i) :=
    shapeCast_apply o _ _ _ rfl
  show (shapeCast S1024x512 o shapeCasts_S1024x512_S1024x512 (halfIx i) : EReal)
    + FloatOps.matmul (DotDims.plain 1024 2048 512) none (shapeCast S1024x2048 (rVal m c (gIx (n / 8))) shapeCasts_S1x1024x2048_S1024x2048) _
        (constant S1024x512 .f32 0x00000000#32) (halfIx i) = _
  rw [ho, hf, Ideal.matmul_plain_apply]
  refine congrArg (HAdd.hAdd (o (ValueIdx.ix2 _ _) : EReal)) ?_
  show Ideal.ofBits .f32 0x00000000#32 + _ = _
  rw [Ideal.ofBits_zero_f32, zero_add]
  refine Finset.sum_congr rfl fun k _ => ?_
  show (shapeCast S1024x2048 (rVal m c (gIx (n / 8))) shapeCasts_S1x1024x2048_S1024x2048 (ValueIdx.ix2 _ k) : EReal)
    * (shapeCast S2048x512 (wVal m c n) shapeCasts_S1x2048x512_S2048x512 (ValueIdx.ix2 k _) : EReal) = _
  rw [rVal_at, wVal_at, hs]
  refine congrArg₂ (fun a b : EReal => a * b) ?_ ?_
  · refine congrArg (fun r => xAt m (dn c (dIx (n / 8))) c r k) (Fin.ext ?_)
    show 1024 * (hIx (n / 8)).val + (i 0).val % 1024 = (i 0).val
    rw [← h0]; omega
  · refine congrArg (wAt m c (dn c (dIx (n / 8))) k) (Fin.ext ?_)
    show 512 * (n % 8) + (i 1).val % 512 = (i 1).val
    omega

/-! ## All passes -/

/-- Over steps that do not store element `i`, it keeps what it held. -/
theorem outSeq_keep (c : Dev nD) (o : Out Ideal) (i : S2048x4096.Idx) (n : ℕ) (hn : 8 ≤ n) : ∀ k,
    (∀ q, n ≤ q → q < n + k → ¬ ((i 0).val / 1024 = (hIx (q / 8)).val ∧ (i 1).val / 512 = q % 8)) → outSeq m c o (n + k) i = outSeq m c o n i
  | 0, _ => rfl
  | k + 1, h =>
    (later_off m c (n + k) (by omega) _ i (h (n + k) (by omega) (by omega))).trans
      (outSeq_keep c o i n hn k fun q hq hq' => h q hq (by omega))

/-- Before the first of the later passes an element holds the device's own part. -/
theorem outSeq_own (c : Dev nD) (o : Out Ideal) (i : S2048x4096.Idx) : ∀ k, (i 1).val / 512 + 1 + k ≤ 8 →
    (outSeq m c o ((i 1).val / 512 + 1 + k) i : EReal) = part m c c i
  | 0, h => (first_in m c ((i 1).val / 512) (by omega) _ i rfl).trans (payOwn_at m c _ (by omega) i rfl)
  | k + 1, h => (first_off m c ((i 1).val / 512 + 1 + k) (by omega) _ i (by omega)).trans (outSeq_own c o i k (by omega))

/-- An element of the result, as an extended real. -/
abbrev eltOf (o : Out Ideal) (i : S2048x4096.Idx) : EReal := o i

/-- The activation: `y` times its logistic function. -/
def act (y : EReal) : EReal := y * Ideal.logistic y

/-- A step that stores element `i` without the activation adds its part, -/
theorem outSeq_acc (c : Dev nD) (o : Out Ideal) (i : S2048x4096.Idx) (n : ℕ) (hn : 8 ≤ n)
    (h0 : (i 0).val / 1024 = (hIx (n / 8)).val) (h1 : (i 1).val / 512 = n % 8) (h3 : n / 8 ≠ 3) (h6 : n / 8 ≠ 6) :
    eltOf (outSeq m c o (n + 1)) i = eltOf (outSeq m c o n) i + part m c (srcDev c (n / 8)) i := by
  have hp (w x o') : payAt (F := Ideal) (n / 8) w x o' = payAcc w x o' := by
    unfold payAt
    split
    · exact absurd (by assumption) h3
    · exact absurd (by assumption) h6
    · rfl
  refine (later_in m c n hn _ i h0 h1).trans ?_
  rw [hp]
  refine (sumAcc_at m c n hn _ i h0 h1).trans ?_
  rw [halfOf_apply n _ i h0 h1]
/-- one with it applies it to the sum. -/
theorem outSeq_act (c : Dev nD) (o : Out Ideal) (i : S2048x4096.Idx) (n : ℕ) (hn : 8 ≤ n)
    (h0 : (i 0).val / 1024 = (hIx (n / 8)).val) (h1 : (i 1).val / 512 = n % 8) (h : n / 8 = 3 ∨ n / 8 = 6) :
    eltOf (outSeq m c o (n + 1)) i = act (eltOf (outSeq m c o n) i + part m c (srcDev c (n / 8)) i) := by
  have hp (w x o') : payAt (F := Ideal) (n / 8) w x o' = payAct w x o' := by
    rcases h with h | h <;> rw [h] <;> rfl
  refine (later_in m c n hn _ i h0 h1).trans ?_
  rw [hp]
  show act (sumAcc (wVal m c n) (rVal m c (gIx (n / 8))) (halfOf n (outSeq m c o n)) (halfIx i)) = _
  rw [sumAcc_at m c n hn _ i h0 h1, halfOf_apply n _ i h0 h1]

/-- The four devices, in the order the passes take them. -/
theorem sum_devs (c : Dev nD) (f : Dev nD → EReal) : ((f c + f (dn c 0)) + f (dn c 2)) + f (dn c 1) = ∑ e : Dev nD, f e := by
  have h : ∀ c : Dev nD, (Finset.univ : Finset (Dev nD)) = {c, dn c 0, dn c 2, dn c 1} := by decide
  have h' : ∀ c : Dev nD, c ∉ ({dn c 0, dn c 2, dn c 1} : Finset (Dev nD)) ∧ dn c 0 ∉ ({dn c 2, dn c 1} : Finset (Dev nD)) ∧ dn c 2 ∉ ({dn c 1} : Finset (Dev nD)) := by decide
  rw [h c, Finset.sum_insert (h' c).1, Finset.sum_insert (h' c).2.1, Finset.sum_insert (h' c).2.2, Finset.sum_singleton]
  simp only [add_assoc]

/-- A pass `j` whose rows the element is in is `j = 3 h + 1, 3 h + 2, 3 h + 3`. -/
theorem pass_half (h : Fin 2) (p : Fin 3) : (hIx (3 * h.val + p.val + 1)).val = h.val
    ∧ (hIx (3 * h.val + p.val + 1) = h) ∧ dIx (3 * h.val + p.val + 1) = dIx (p.val + 1) := by revert h p; decide
/-- A step outside an element's three passes does not store it. -/
theorem pass_only (h : Fin 2) (j : Fin 7) (h1 : 1 ≤ j.val) (hj : (hIx j.val).val = h.val) : 3 * h.val + 1 ≤ j.val ∧ j.val ≤ 3 * h.val + 3 := by
  revert h j; decide

/-- Every element of the result ends as the activation of the sum of the four devices' parts. -/
theorem outAt_at (c : Dev nD) (i : S2048x4096.Idx) : eltOf (outAt m c) i = act (∑ e : Dev nD, part m c e i) := by
  obtain ⟨o, ho⟩ : ∃ o, outAt m c = outSeq m c o 56 := ⟨_, rfl⟩
  rw [ho]
  have hi0 : (i 0).val < 2048 := (i 0).isLt
  have hi1 : (i 1).val < 4096 := (i 1).isLt
  obtain ⟨h, hh⟩ : ∃ h : Fin 2, (i 0).val / 1024 = h.val := ⟨⟨(i 0).val / 1024, by omega⟩, rfl⟩
  obtain ⟨t, ht⟩ : ∃ t : ℕ, (i 1).val / 512 = t := ⟨_, rfl⟩
  have htl : t < 8 := by omega
  have hhl := h.isLt
  -- the step of pass `3 h + p + 1` that stores the element
  have hs (p : Fin 3) : (i 0).val / 1024 = (hIx ((8 * (3 * h.val + p.val + 1) + t) / 8)).val
      ∧ (i 1).val / 512 = (8 * (3 * h.val + p.val + 1) + t) % 8 := by
    have hq : (8 * (3 * h.val + p.val + 1) + t) / 8 = 3 * h.val + p.val + 1 := by omega
    rw [hq, (pass_half h p).1, hh, ht]
    exact ⟨rfl, by omega⟩
  have hd (p : Fin 3) : srcDev c ((8 * (3 * h.val + p.val + 1) + t) / 8) = dn c (dIx (p.val + 1)) := by
    have hq : (8 * (3 * h.val + p.val + 1) + t) / 8 = 3 * h.val + p.val + 1 := by omega
    rw [hq]
    show dn c (dIx (3 * h.val + p.val + 1)) = _
    rw [(pass_half h p).2.2]
  -- no step between stores it
  have hk (a k : ℕ) (ha : 8 ≤ a) (hb : a + k ≤ 56) (hgap : ∀ j, 3 * h.val + 1 ≤ j → j ≤ 3 * h.val + 3 → ¬ (a ≤ 8 * j + t ∧ 8 * j + t < a + k)) :
      eltOf (outSeq m c o (a + k)) i = eltOf (outSeq m c o a) i :=
    outSeq_keep m c o i a ha k fun q hq hq' hc => by
      have hj := pass_only h ⟨q / 8, by omega⟩ (show 1 ≤ q / 8 by omega) (by rw [← hh]; exact hc.1.symm)
      have hj' : 3 * h.val + 1 ≤ q / 8 ∧ q / 8 ≤ 3 * h.val + 3 := hj
      refine hgap (q / 8) hj'.1 hj'.2 ?_
      have := hc.2
      omega
  have e0 : eltOf (outSeq m c o 8) i = part m c c i := by
    have := outSeq_own m c o i (7 - t) (by omega)
    rwa [show (i 1).val / 512 + 1 + (7 - t) = 8 by omega] at this
  have e1 := hk 8 (8 * (3 * h.val) + t) (by omega) (by omega) (by intro j _ _; omega)
  have e2 := hk (8 * (3 * h.val + 0 + 1) + t + 1) 7 (by omega) (by omega) (by intro j _ _; omega)
  have e3 := hk (8 * (3 * h.val + 1 + 1) + t + 1) 7 (by omega) (by omega) (by intro j _ _; omega)
  have e4 := hk (8 * (3 * h.val + 2 + 1) + t + 1) (56 - (8 * (3 * h.val + 2 + 1) + t + 1)) (by omega) (by omega) (by intro j _ _; omega)
  have a1 := outSeq_acc m c o i (8 * (3 * h.val + 0 + 1) + t) (by omega) (hs 0).1 (hs 0).2 (by omega) (by omega)
  have a2 := outSeq_acc m c o i (8 * (3 * h.val + 1 + 1) + t) (by omega) (hs 1).1 (hs 1).2 (by omega) (by omega)
  have a3 := outSeq_act m c o i (8 * (3 * h.val + 2 + 1) + t) (by omega) (hs 2).1 (hs 2).2 (by omega)
  rw [show 8 * (3 * h.val + 2 + 1) + t + 1 + (56 - (8 * (3 * h.val + 2 + 1) + t + 1)) = 56 by omega] at e4
  rw [show 8 * (3 * h.val + 1 + 1) + t + 1 + 7 = 8 * (3 * h.val + 2 + 1) + t by omega] at e3
  rw [show 8 * (3 * h.val + 0 + 1) + t + 1 + 7 = 8 * (3 * h.val + 1 + 1) + t by omega] at e2
  rw [show 8 + (8 * (3 * h.val) + t) = 8 * (3 * h.val + 0 + 1) + t by omega] at e1
  have d0 := hd 0
  have d1 := hd 1
  have d2 := hd 2
  rw [e4, a3, e3, a2, e2, a1, e1, e0, show srcDev c ((8 * (3 * h.val + 0 + 1) + t) / 8) = dn c 0 from d0,
    show srcDev c ((8 * (3 * h.val + 1 + 1) + t) / 8) = dn c 2 from d1, show srcDev c ((8 * (3 * h.val + 2 + 1) + t) / 8) = dn c 1 from d2]
  exact congrArg act (sum_devs c fun e => part m c e i)

end Cert.Mesh

end
-- ==== Proof.Agree.lean ====
/-
# The mesh computes the reference

The kernel's run with its result named, the reference's result element by element, and that each device's result is its
block of the reference's.
-/
module

public import proofs.«01_k».proof.Proof.Launch
public import proofs.«01_k».proof.Proof.Value
public import proofs.«01_k».proof.Proof.Gen.ReferenceIdeal.Run
public import Idealize.ShloMosaic.Lib.Pipeline.ValueKit.Geometry
public import Idealize.ShloMosaic.Lib.Layout
public import Idealize.ShloMosaic.Lib.StackMember
public import Idealize.ShloMosaic.PureOps.IdealRules

@[expose] public section

noncomputable section

namespace Cert.Mesh

open Cert.KernelIdeal Cert.KernelIdeal.Gen
open Idealize.ShloMosaic Idealize.ShloMosaic.TcCoe
open Idealize.SL.Sem
open Idealize.ShloMosaic.Pipeline (Dat Cfg Window)
open scoped BigOperators

/-! ## The kernel's run -/

section Run
variable {F : FTy → Type} [FloatOps F] (m : (ℓ : Loc nD τ sig) → Buf (Elt F) ℓ) (ρ : Dev nD → PrngReg)

/-- The array the run writes back is what the body leaves in the staging buffer. -/
theorem written (c : Dev nD) : (dats m ρ 0 c).arrAt 0 cfg0.N = outAt m c := by
  refine (dats m ρ 0 c).arrAt_eq_of_after_last 0 t₀ (by decide +kernel) (outAt m c) fun j => ?_
  rfl

/-- From any memory and zero semaphores every fair execution of the four devices ends with every semaphore at zero, each
    device's result at `outAt` and its arguments unchanged. -/
theorem run : θ_run defs (onTc (τ := τ) (main (F := F))) (s₀ m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨((h.1 c).1 0).trans (written m ρ c), (h.1 c).2.2⟩, h.2⟩) (run_main m ρ)
end Run

/-! ## The activation -/

/-- One more than an exponential is not zero. -/
theorem one_add_exp_ne (y : EReal) : (1 : EReal) + Ideal.exp y ≠ 0 := by
  have h : (0 : EReal) ≤ Ideal.exp y := by
    induction y with
    | bot => exact le_refl _
    | top => exact le_top
    | coe r => exact EReal.coe_nonneg.mpr (Real.exp_pos r).le
  exact (lt_of_lt_of_le zero_lt_one (by simpa using add_le_add_right h (1 : EReal))).ne'

/-- `y` times its logistic function is `y` over one plus the exponential of its negation. -/
theorem act_eq (y : EReal) : act y = Ideal.div y (1 + Ideal.exp (-y)) := by
  unfold act Ideal.logistic Ideal.div
  rw [if_neg (one_add_exp_ne _), if_neg (one_add_exp_ne _), one_mul]

/-! ## The reference's result -/

/-- The reference's product at row `r`, column `l`. -/
abbrev prodAt (X : FVec Ideal Cert.ReferenceIdeal.S8192x8192 .bf16) (W : FVec Ideal Cert.ReferenceIdeal.S8192x4096 .f32)
    (r : Fin 8192) (l : Fin 4096) : EReal := ∑ k : Fin 8192, (X (ValueIdx.ix2 r k) : EReal) * W (ValueIdx.ix2 k l)

/-- What the reference computes of `x` and `w`. -/
def refOut (X : FVec Ideal Cert.ReferenceIdeal.S8192x8192 .bf16) (W : FVec Ideal Cert.ReferenceIdeal.S8192x4096 .f32) :
    FVec Ideal Cert.ReferenceIdeal.S8192x4096 .bf16 :=
  truncf .bf16 (Host.divf (Host.dotGeneral Cert.ReferenceIdeal.dot_S8192x8192_S8192x4096_S8192x4096_1_0_0_1_n_n none
      (extf .f32 X Cert.ReferenceIdeal.Gen.bitsLt_bf16_f32) W)
    (addf (broadcastInDim Cert.ReferenceIdeal.S8192x4096 ![] Cert.ReferenceIdeal.Gen.bcast_S_S8192x4096 (constant Cert.ReferenceIdeal.S_ .f32 0x3F800000#32))
      (Host.exp (Host.negf (Host.dotGeneral Cert.ReferenceIdeal.dot_S8192x8192_S8192x4096_S8192x4096_1_0_0_1_n_n none
        (extf .f32 X Cert.ReferenceIdeal.Gen.bitsLt_bf16_f32) W))))) Cert.ReferenceIdeal.Gen.bitsLt_bf16_f32

/-- The reference's quotient of any array `D`, at an index. -/
theorem quot_at (D : FVec Ideal Cert.ReferenceIdeal.S8192x4096 .f32) (i : Cert.ReferenceIdeal.S8192x4096.Idx) :
    (truncf .bf16 (Host.divf D (addf (broadcastInDim Cert.ReferenceIdeal.S8192x4096 ![] Cert.ReferenceIdeal.Gen.bcast_S_S8192x4096
        (constant Cert.ReferenceIdeal.S_ .f32 0x3F800000#32)) (Host.exp (Host.negf D)))) Cert.ReferenceIdeal.Gen.bitsLt_bf16_f32 i : EReal)
      = act (D i) := by
  have h1 : Ideal.ofBits .f32 0x3F800000#32 = 1 := IdealRules.sign_bit.ideal_onePat .f32
  rw [act_eq, ← h1]
  rfl

/-- Its element at row `r`, column `l` is the activation of the product there. -/
theorem refOut_at (X : FVec Ideal Cert.ReferenceIdeal.S8192x8192 .bf16) (W : FVec Ideal Cert.ReferenceIdeal.S8192x4096 .f32)
    (r : Fin 8192) (l : Fin 4096) : (refOut X W (ValueIdx.ix2 r l) : EReal) = act (prodAt X W r l) := by
  have hd : (Host.dotGeneral Cert.ReferenceIdeal.dot_S8192x8192_S8192x4096_S8192x4096_1_0_0_1_n_n none
      (extf .f32 X Cert.ReferenceIdeal.Gen.bitsLt_bf16_f32 : FVec Ideal Cert.ReferenceIdeal.S8192x8192 .f32) W (ValueIdx.ix2 r l) : EReal) = prodAt X W r l :=
    StackMember.dotGeneral_plain_apply (m := 8192) (n := 4096) none (extf .f32 X Cert.ReferenceIdeal.Gen.bitsLt_bf16_f32 : FVec Ideal Cert.ReferenceIdeal.S8192x8192 .f32) W r l
  exact (quot_at _ _).trans (congrArg act hd)

/-! ## The two agree -/

/-- Each device's result is its block of the reference's. -/
theorem agree (m : (ℓ : Loc nD τ sig) → Buf (Elt Ideal) ℓ) (X : FVec Ideal Cert.ReferenceIdeal.S8192x8192 .bf16)
    (W : FVec Ideal Cert.ReferenceIdeal.S8192x4096 .f32)
    (hX : ∀ c : Dev nD, m ((c.tc : Thread nD τ).loc main_arg0) = Layout.block ⟨2, ![8192, 2048]⟩ ⟨2, ![8192, 8192]⟩ 1 4 c X)
    (hW : ∀ c : Dev nD, m ((c.tc : Thread nD τ).loc main_arg1) = W) (c : Dev nD) :
    outAt m c = Layout.block ⟨2, ![2048, 4096]⟩ ⟨2, ![8192, 4096]⟩ 0 4 c (refOut X W) := by
  funext i
  refine (outAt_at m c i).trans ?_
  have hc : c.val < 4 := c.isLt
  have hi : (Layout.block ⟨2, ![2048, 4096]⟩ ⟨2, ![8192, 4096]⟩ 0 4 c (refOut X W) (h := by decide) i : EReal)
      = refOut X W (ValueIdx.ix2 ⟨c.val * 2048 + (rowOf i).val, by omega⟩ (colOf i)) := by
    refine congrArg (refOut X W) (funext fun a => Fin.ext ?_)
    match a with
    | ⟨0, _⟩ => rfl
    | ⟨1, _⟩ => rfl
  refine Eq.trans ?_ hi.symm
  rw [refOut_at]
  refine congrArg act ?_
  rw [prodAt, Fin.sum_univ_tiles 4 2048 rfl]
  refine Finset.sum_congr rfl fun e _ => Finset.sum_congr rfl fun k _ => congrArg₂ (fun a b : EReal => a * b) ?_ ?_
  · show (m ((Dev.tc (show Dev nD from e) : Thread nD τ).loc main_arg0) _ : EReal) = _
    rw [hX e]
    refine congrArg X (funext fun a => Fin.ext ?_)
    match a with
    | ⟨0, _⟩ => rfl
    | ⟨1, _⟩ => rfl
  · show (m ((c.tc : Thread nD τ).loc main_arg1) _ : EReal) = _
    rw [hW c]

end Cert.Mesh

end
-- ==== Proof.Claims.lean ====
/-
# The claims

Each claim about the kernel and the reference, from the runs and the agreement of their values.
-/
module

public import proofs.«01_k».proof.Defs
public import proofs.«01_k».proof.Proof.Agree
public import proofs.«01_k».proof.Proof.Gen.Kernel
public import Idealize.ShloMosaic.Lib.Quiescent

@[expose] public section

noncomputable section

namespace Cert.Mesh

open Idealize.ShloMosaic Idealize.ShloMosaic.TcCoe
open Idealize.SL.Sem

/-- The idealized kernel runs, leaves its arguments and ends with every semaphore at zero. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (run (F := Ideal) m ρ)

section Same
variable {F : FTy → Type} [FloatOps F]

attribute [local instance] Cert.Kernel.Gen.facts Cert.KernelIdeal.Gen.facts

/-- The two printings of the kernel have one body. -/
theorem body_same : Cert.Kernel.cc0__fused_body (F := F) = Cert.KernelIdeal.cc0__fused_body (F := F) := rfl

/-- And one table of the bodies their label calls. -/
theorem table_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- And one table of definitions. -/
theorem defs_same : Cert.Kernel.defs (F := F) = Cert.KernelIdeal.defs (F := F) :=
  congrArg (Pipeline.defs Cert.Kernel.pcfgs) table_same
end Same

/-- So does the kernel on bit patterns, whose program is the same. -/
theorem frame_kernel : Cert.quiescent_Kernel (hKernel := Cert.Kernel.Gen.facts) := fun m ρ _ => by
  rw [defs_same]
  exact (θ_run Cert.KernelIdeal.defs _ _).mono (fun _ h => ⟨fun c => (h.1 c).2, h.2⟩) (run (F := Bits) m ρ)

/-- The reference runs, leaves its arguments, and has no semaphore to leave. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments every device's result is its block of the reference's. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (agree m _ _ (fun e => (hm e).1) (fun e => (hm e).2) c), (h.1 c).2⟩) (run (F := Ideal) m ρ),
    (θ_run Cert.ReferenceIdeal.defs _ _).mono (fun _ h => h 0) (Cert.ReferenceIdeal.Value.run (F := Ideal) m' ρ')⟩

end Cert.Mesh

end
-- ==== Proof.lean ====
/-
# The certificate

Every claim, assembled. The kernel's run is Proof/Launch.lean, what each device computes Proof/Value.lean, and the
claims themselves Proof/Claims.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The frames of the kernel, its idealization and the reference, and that the mesh computes the reference. -/
theorem claim : Cert.Claim := ⟨Cert.Kernel.Gen.facts, Cert.KernelIdeal.Gen.facts, Cert.ReferenceIdeal.Gen.facts,
  Cert.Mesh.frame_kernel, Cert.Mesh.frame_kernelIdeal, Cert.Mesh.frame_reference, trivial, Cert.Mesh.algebraic⟩

end Cert.Proof

end
